-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x200x4 : Shape := ⟨3, ![16384, 200, 4]⟩
abbrev S4x64 : Shape := ⟨2, ![4, 64]⟩
abbrev S64x4x4 : Shape := ⟨3, ![64, 4, 4]⟩
abbrev S64x4 : Shape := ⟨2, ![64, 4]⟩
abbrev S4x32 : Shape := ⟨2, ![4, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S16384x200x4 : S_.BroadcastsInDim S16384x200x4 (![] : Fin 0 → Fin S16384x200x4.rank)
  reducesTo_S16384x200x4_S_d0_1_2 : S16384x200x4.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_
  bcast_S_S64x4 : S_.BroadcastsInDim S64x4 (![] : Fin 0 → Fin S64x4.rank)
  reducesTo_S64x4_S_d0_1 : S64x4.ReducesTo [0, 1] S_

variable [Facts]

def fn {F : FTy → Type} [FloatOps F] (main_arg0 : FVec F S16384x200x4 .f32) (main_arg1 : FVec F S4x64 .f32) (main_arg2 : FVec F S64x4x4 .f32) (main_arg3 : FVec F S64x4x4 .f32) (main_arg4 : FVec F S64x4 .f32) (main_arg5 : FVec F S64x4 .f32) (main_arg6 : FVec F S4x32 .f32) (main_arg7 : FVec F S32 .f32) (main_arg8 : FVec F S32x10 .f32) (main_arg9 : FVec F S10 .f32) : IVec S_ 1 :=
  let main_v0 : FVec F S16384x200x4 .f32 := Host.absf main_arg0
  let main_cst : FVec F S_ .f32 := constant S_ .f32 0x7F800000#32
  let main_v1 : FVec F S16384x200x4 .f32 := broadcastInDim S16384x200x4 ![] bcast_S_S16384x200x4 main_cst
  let main_v2 : IVec S16384x200x4 1 := cmpf .olt main_v0 main_v1
  let main_c : IVec S_ 1 := constantI S_ 1 1#1
  let main_v3 : IVec S_ 1 := (fun x v => Host.reduce IntOp.andi x v reducesTo_S16384x200x4_S_d0_1_2 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64x4 .f32 := Host.absf main_arg5
  let main_cst_2 : FVec F S_ .f32 := constant S_ .f32 0x7F800000#32
  let main_v10 : FVec F S64x4 .f32 := broadcastInDim S64x4 ![] bcast_S_S64x4 main_cst_2
  let main_v11 : IVec S64x4 1 := cmpf .olt main_v9 main_v10
  let main_c_3 : IVec S_ 1 := constantI S_ 1 1#1
  let main_v12 : IVec S_ 1 := (fun x v => Host.reduce IntOp.andi x v reducesTo_S64x4_S_d0_1 h_S_) main_v11 main_c_3
  let main_v13 : IVec S_ 1 := andi main_v8 main_v12
  main_v13
-- ==== Kernel.lean ====
abbrev S16384x200x4 : Shape := ⟨3, ![16384, 200, 4]⟩
abbrev S4x64 : Shape := ⟨2, ![4, 64]⟩
abbrev S64x4x4 : Shape := ⟨3, ![64, 4, 4]⟩
abbrev S64x4 : Shape := ⟨2, ![64, 4]⟩
abbrev S4x32 : Shape := ⟨2, ![4, 32]⟩
abbrev S32 : Shape := ⟨1, ![32]⟩
abbrev S32x10 : Shape := ⟨2, ![32, 10]⟩
abbrev S10 : Shape := ⟨1, ![10]⟩
abbrev S200x4x16384 : Shape := ⟨3, ![200, 4, 16384]⟩
abbrev S_ : Shape := ⟨0, ![]⟩
abbrev S8x64 : Shape := ⟨2, ![8, 64]⟩
abbrev S4x4x64 : Shape := ⟨3, ![4, 4, 64]⟩
abbrev S4x8x64 : Shape := ⟨3, ![4, 8, 64]⟩
abbrev S32x64 : Shape := ⟨2, ![32, 64]⟩
abbrev S80x64 : Shape := ⟨2, ![80, 64]⟩
abbrev S32x4 : Shape := ⟨2, ![32, 4]⟩
abbrev S32x8 : Shape := ⟨2, ![32, 8]⟩
abbrev S32x1 : Shape := ⟨2, ![32, 1]⟩
abbrev S10x32 : Shape := ⟨2, ![10, 32]⟩
abbrev S16x32 : Shape := ⟨2, ![16, 32]⟩
abbrev S16 : Shape := ⟨1, ![16]⟩
abbrev S16x1 : Shape := ⟨2, ![16, 1]⟩
abbrev S16x16384 : Shape := ⟨2, ![16, 16384]⟩
abbrev S200x4x1024 : Shape := ⟨3, ![200, 4, 1024]⟩
abbrev S16x1024 : Shape := ⟨2, ![16, 1024]⟩
abbrev S64x1024 : Shape := ⟨2, ![64, 1024]⟩
abbrev S8x1024 : Shape := ⟨2, ![8, 1024]⟩
abbrev S1x4x1024 : Shape := ⟨3, ![1, 4, 1024]⟩
abbrev S4x1024 : Shape := ⟨2, ![4, 1024]⟩
abbrev S64x1 : Shape := ⟨2, ![64, 1]⟩
abbrev S1x1024 : Shape := ⟨2, ![1, 1024]⟩
abbrev S1024 : Shape := ⟨1, ![1024]⟩
abbrev S80x1024 : Shape := ⟨2, ![80, 1024]⟩
abbrev S32x1024 : Shape := ⟨2, ![32, 1024]⟩
abbrev S10x16384 : Shape := ⟨2, ![10, 16384]⟩
abbrev S16384x10 : Shape := ⟨2, ![16384, 10]⟩
abbrev S16384x5x2 : Shape := ⟨3, ![16384, 5, 2]⟩

abbrev nBuf : Space → Nat
  | .hbm => 53
  | .vmem => 10
  | .smem => 0
  | _ => 0

abbrev bufTy : (tb : Table) → Fin (tcTables nBuf tb) → BufTy
  | .hbm, ⟨0, _⟩ => ⟨S16384x200x4, .f32⟩
  | .hbm, ⟨1, _⟩ => ⟨S4x64, .f32⟩
  | .hbm, ⟨2, _⟩ => ⟨S64x4x4, .f32⟩
  | .hbm, ⟨3, _⟩ => ⟨S64x4x4, .f32⟩
  | .hbm, ⟨4, _⟩ => ⟨S64x4, .f32⟩
  | .hbm, ⟨5, _⟩ => ⟨S64x4, .f32⟩
  | .hbm, ⟨6, _⟩ => ⟨S4x32, .f32⟩
  | .hbm, ⟨7, _⟩ => ⟨S32, .f32⟩
  | .hbm, ⟨8, _⟩ => ⟨S32x10, .f32⟩
  | .hbm, ⟨9, _⟩ => ⟨S10, .f32⟩
  | .hbm, ⟨10, _⟩ => ⟨S200x4x16384, .f32⟩
  | .hbm, ⟨11, _⟩ => ⟨S4x64, .f32⟩
  | .hbm, ⟨12, _⟩ => ⟨S_, .i32⟩
  | .hbm, ⟨13, _⟩ => ⟨S_, .f32⟩
  | .hbm, ⟨14, _⟩ => ⟨S8x64, .f32⟩
  | .hbm, ⟨15, _⟩ => ⟨S64x4, .f32⟩
  | .hbm, ⟨16, _⟩ => ⟨S64x4, .f32⟩
  | .hbm, ⟨17, _⟩ => ⟨S4x64, .f32⟩
  | .hbm, ⟨18, _⟩ => ⟨S_, .f32⟩
  | .hbm, ⟨19, _⟩ => ⟨S4x64, .f32⟩
  | .hbm, ⟨20, _⟩ => ⟨S4x64, .f32⟩
  | .hbm, ⟨21, _⟩ => ⟨S_, .i32⟩
  | .hbm, ⟨22, _⟩ => ⟨S_, .f32⟩
  | .hbm, ⟨23, _⟩ => ⟨S8x64, .f32⟩
  | .hbm, ⟨24, _⟩ => ⟨S4x4x64, .f32⟩
  | .hbm, ⟨25, _⟩ => ⟨S_, .i32⟩
  | .hbm, ⟨26, _⟩ => ⟨S_, .f32⟩
  | .hbm, ⟨27, _⟩ => ⟨S4x8x64, .f32⟩
  | .hbm, ⟨28, _⟩ => ⟨S32x64, .f32⟩
  | .hbm, ⟨29, _⟩ => ⟨S4x4x64, .f32⟩
  | .hbm, ⟨30, _⟩ => ⟨S_, .i32⟩
  | .hbm, ⟨31, _⟩ => ⟨S_, .f32⟩
  | .hbm, ⟨32, _⟩ => ⟨S4x8x64, .f32⟩
  | .hbm, ⟨33, _⟩ => ⟨S32x64, .f32⟩
  | .hbm, ⟨34, _⟩ => ⟨S80x64, .f32⟩
  | .hbm, ⟨35, _⟩ => ⟨S64x4, .f32⟩
  | .hbm, ⟨36, _⟩ => ⟨S32x4, .f32⟩
  | .hbm, ⟨37, _⟩ => ⟨S_, .i32⟩
  | .hbm, ⟨38, _⟩ => ⟨S_, .f32⟩
  | .hbm, ⟨39, _⟩ => ⟨S32x8, .f32⟩
  | .hbm, ⟨40, _⟩ => ⟨S32x1, .f32⟩
  | .hbm, ⟨41, _⟩ => ⟨S10x32, .f32⟩
  | .hbm, ⟨42, _⟩ => ⟨S_, .i32⟩
  | .hbm, ⟨43, _⟩ => ⟨S_, .f32⟩
  | .hbm, ⟨44, _⟩ => ⟨S16x32, .f32⟩
  | .hbm, ⟨45, _⟩ => ⟨S_, .i32⟩
  | .hbm, ⟨46, _⟩ => ⟨S_, .f32⟩
  | .hbm, ⟨47, _⟩ => ⟨S16, .f32⟩
  | .hbm, ⟨48, _⟩ => ⟨S16x1, .f32⟩
  | .hbm, ⟨49, _⟩ => ⟨S16x16384, .f32⟩
  | .hbm, ⟨50, _⟩ => ⟨S10x16384, .f32⟩
  | .hbm, ⟨51, _⟩ => ⟨S16384x10, .f32⟩
  | .hbm, ⟨52, _⟩ => ⟨S16384x5x2, .f32⟩
  | .local _ .vmem, ⟨0, _⟩ => ⟨S200x4x1024, .f32⟩
  | .local _ .vmem, ⟨1, _⟩ => ⟨S200x4x1024, .f32⟩
  | .local _ .vmem, ⟨2, _⟩ => ⟨S64x4, .f32⟩
  | .local _ .vmem, ⟨3, _⟩ => ⟨S80x64, .f32⟩
  | .local _ .vmem, ⟨4, _⟩ => ⟨S32x8, .f32⟩
  | .local _ .vmem, ⟨5, _⟩ => ⟨S32x1, .f32⟩
  | .local _ .vmem, ⟨6, _⟩ => ⟨S16x32, .f32⟩
  | .local _ .vmem, ⟨7, _⟩ => ⟨S16x1, .f32⟩
  | .local _ .vmem, ⟨8, _⟩ => ⟨S16x1024, .f32⟩
  | .local _ .vmem, ⟨9, _⟩ => ⟨S16x1024, .f32⟩
  | _, _ => ⟨S16384x200x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_call2_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_call3_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_call4_v0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_call5_v0 : Ref sig .tc := ⟨.hbm, 43, rfl⟩
abbrev main_v21 : Ref sig .tc := ⟨.hbm, 44, rfl⟩
abbrev main_c_5 : Ref sig .tc := ⟨.hbm, 45, rfl⟩
abbrev main_call6_v0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c200_i32 : BitVec 32 := 200#32
  let v6 : BitVec 32 := Scalar.addi c0_i32 c200_i32
  let c1_i32 : BitVec 32 := 1#32
  ⟨c0_i32, v6, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v37 : Index := Scalar.indexCast arg9
  let c0_21 : Index := 0#32
  let c0_22 : Index := 0#32
  ![v37.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S200x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S80x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x200x4 : Shape := ⟨3, ![16384, 200, 4]⟩
abbrev S4x64 : Shape := ⟨2, ![4, 64]⟩
abbrev S64x4x4 : Shape := ⟨3, ![64, 4, 4]⟩
abbrev S64x4 : Shape := ⟨2, ![64, 4]⟩
abbrev S4x32 : Shape := ⟨2, ![4, 32]⟩
abbrev S32 : Shape := ⟨1, ![32]⟩
abbrev S32x10 : Shape := ⟨2, ![32, 10]⟩
abbrev S10 : Shape := ⟨1, ![10]⟩
abbrev S_ : Shape := ⟨0, ![]⟩
abbrev S16384x4 : Shape := ⟨2, ![16384, 4]⟩
abbrev S200x16384x4 : Shape := ⟨3, ![200, 16384, 4]⟩
abbrev S1x16384x4 : Shape := ⟨3, ![1, 16384, 4]⟩
abbrev S16384x64 : Shape := ⟨2, ![16384, 64]⟩
abbrev S16384x2 : Shape := ⟨2, ![16384, 2]⟩
abbrev S16384 : Shape := ⟨1, ![16384]⟩
abbrev S16384x1 : Shape := ⟨2, ![16384, 1]⟩
abbrev S16384x2x1 : Shape := ⟨3, ![16384, 2, 1]⟩
abbrev S16384x2x4x4 : Shape := ⟨4, ![16384, 2, 4, 4]⟩
abbrev S16384x2x4 : Shape := ⟨3, ![16384, 2, 4]⟩
abbrev S16384x1x4 : Shape := ⟨3, ![16384, 1, 4]⟩
abbrev S16384x32 : Shape := ⟨2, ![16384, 32]⟩
abbrev S1x32 : Shape := ⟨2, ![1, 32]⟩
abbrev S16384x10 : Shape := ⟨2, ![16384, 10]⟩
abbrev S1x10 : Shape := ⟨2, ![1, 10]⟩
abbrev S16384x5x2 : Shape := ⟨3, ![16384, 5, 2]⟩

abbrev nBuf : Space → Nat
  | .hbm => 138
  | .vmem => 0
  | .smem => 0
  | _ => 0

abbrev hbmTy0_0 (i : Nat) : BufTy := match i % 128 with
  | 0 => ⟨S16384x200x4, .f32⟩
  | 1 => ⟨S4x64, .f32⟩
  | 2 => ⟨S64x4x4, .f32⟩
  | 3 => ⟨S64x4x4, .f32⟩
  | 4 => ⟨S64x4, .f32⟩
  | 5 => ⟨S64x4, .f32⟩
  | 6 => ⟨S4x32, .f32⟩
  | 7 => ⟨S32, .f32⟩
  | 8 => ⟨S32x10, .f32⟩
  | 9 => ⟨S10, .f32⟩
  | 10 => ⟨S64x4, .f32⟩
  | 11 => ⟨S_, .f32⟩
  | 12 => ⟨S16384x4, .f32⟩
  | 13 => ⟨S200x16384x4, .f32⟩
  | 14 => ⟨S_, .i32⟩
  | 15 => ⟨S200x16384x4, .f32⟩
  | 16 => ⟨S4x64, .f32⟩
  | 17 => ⟨S64x4x4, .f32⟩
  | 18 => ⟨S64x4x4, .f32⟩
  | 19 => ⟨S64x4, .f32⟩
  | 20 => ⟨S64x4, .f32⟩
  | 21 => ⟨S_, .i32⟩
  | 22 => ⟨S16384x4, .f32⟩
  | 23 => ⟨S_, .i32⟩
  | 24 => ⟨S_, .i1⟩
  | 25 => ⟨S_, .i32⟩
  | 26 => ⟨S_, .i32⟩
  | 27 => ⟨S1x16384x4, .f32⟩
  | 28 => ⟨S16384x4, .f32⟩
  | 29 => ⟨S16384x64, .f32⟩
  | 30 => ⟨S16384x2, .f32⟩
  | 31 => ⟨S16384x2, .i32⟩
  | 32 => ⟨S_, .f32⟩
  | 33 => ⟨S16384, .f32⟩
  | 34 => ⟨S_, .f32⟩
  | 35 => ⟨S16384, .f32⟩
  | 36 => ⟨S16384, .f32⟩
  | 37 => ⟨S16384x1, .f32⟩
  | 38 => ⟨S16384x2, .f32⟩
  | 39 => ⟨S16384x2, .f32⟩
  | 40 => ⟨S16384x2, .f32⟩
  | 41 => ⟨S_, .f32⟩
  | 42 => ⟨S16384, .f32⟩
  | 43 => ⟨S16384x1, .f32⟩
  | 44 => ⟨S16384x2, .f32⟩
  | 45 => ⟨S16384x2, .f32⟩
  | 46 => ⟨S_, .i32⟩
  | 47 => ⟨S16384x2, .i32⟩
  | 48 => ⟨S16384x2, .i1⟩
  | 49 => ⟨S_, .i32⟩
  | 50 => ⟨S16384x2, .i32⟩
  | 51 => ⟨S16384x2, .i32⟩
  | 52 => ⟨S16384x2, .i32⟩
  | 53 => ⟨S16384x2x1, .i32⟩
  | 54 => ⟨S16384x2x4x4, .f32⟩
  | 55 => ⟨S_, .i32⟩
  | 56 => ⟨S16384x2, .i32⟩
  | 57 => ⟨S16384x2, .i1⟩
  | 58 => ⟨S_, .i32⟩
  | 59 => ⟨S16384x2, .i32⟩
  | 60 => ⟨S16384x2, .i32⟩
  | 61 => ⟨S16384x2, .i32⟩
  | 62 => ⟨S16384x2x1, .i32⟩
  | 63 => ⟨S16384x2x4x4, .f32⟩
  | 64 => ⟨S_, .i32⟩
  | 65 => ⟨S16384x2, .i32⟩
  | 66 => ⟨S16384x2, .i1⟩
  | 67 => ⟨S_, .i32⟩
  | 68 => ⟨S16384x2, .i32⟩
  | 69 => ⟨S16384x2, .i32⟩
  | 70 => ⟨S16384x2, .i32⟩
  | 71 => ⟨S16384x2x1, .i32⟩
  | 72 => ⟨S16384x2x4, .f32⟩
  | 73 => ⟨S_, .i32⟩
  | 74 => ⟨S16384x2, .i32⟩
  | 75 => ⟨S16384x2, .i1⟩
  | 76 => ⟨S_, .i32⟩
  | 77 => ⟨S16384x2, .i32⟩
  | 78 => ⟨S16384x2, .i32⟩
  | 79 => ⟨S16384x2, .i32⟩
  | 80 => ⟨S16384x2x1, .i32⟩
  | 81 => ⟨S16384x2x4, .f32⟩
  | 82 => ⟨S16384x2x4, .f32⟩
  | 83 => ⟨S16384x2x4, .f32⟩
  | 84 => ⟨S16384x2x4, .f32⟩
  | 85 => ⟨S16384x2x4, .f32⟩
  | 86 => ⟨S16384x2x4, .f32⟩
  | 87 => ⟨S16384x1x4, .f32⟩
  | 88 => ⟨S16384x1x4, .f32⟩
  | 89 => ⟨S16384x2x4, .f32⟩
  | 90 => ⟨S16384x2x4, .f32⟩
  | 91 => ⟨S_, .f32⟩
  | 92 => ⟨S16384x2x4, .f32⟩
  | 93 => ⟨S16384x2x4, .f32⟩
  | 94 => ⟨S16384x2x4, .f32⟩
  | 95 => ⟨S16384x2x4, .f32⟩
  | 96 => ⟨S16384x2x4, .f32⟩
  | 97 => ⟨S16384x2x1, .f32⟩
  | 98 => ⟨S16384x2x4, .f32⟩
  | 99 => ⟨S16384x2x4, .f32⟩
  | 100 => ⟨S_, .f32⟩
  | 101 => ⟨S16384x4, .f32⟩
  | 102 => ⟨S_, .i32⟩
  | 103 => ⟨S_, .i32⟩
  | 104 => ⟨S16384x32, .f32⟩
  | 105 => ⟨S1x32, .f32⟩
  | 106 => ⟨S16384x32, .f32⟩
  | 107 => ⟨S16384x32, .f32⟩
  | 108 => ⟨S16384x32, .f32⟩
  | 109 => ⟨S16384x32, .f32⟩
  | 110 => ⟨S_, .f32⟩
  | 111 => ⟨S16384x32, .f32⟩
  | 112 => ⟨S16384x32, .f32⟩
  | 113 => ⟨S16384x32, .f32⟩
  | 114 => ⟨S_, .f32⟩
  | 115 => ⟨S16384x32, .f32⟩
  | 116 => ⟨S16384x32, .f32⟩
  | 117 => ⟨S16384x32, .f32⟩
  | 118 => ⟨S_, .f32⟩
  | 119 => ⟨S16384x32, .f32⟩
  | 120 => ⟨S16384x32, .f32⟩
  | 121 => ⟨S_, .f32⟩
  | 122 => ⟨S16384x32, .f32⟩
  | 123 => ⟨S16384x32, .f32⟩
  | 124 => ⟨S16384x32, .f32⟩
  | 125 => ⟨S16384x10, .f32⟩
  | 126 => ⟨S1x10, .f32⟩
  | 127 => ⟨S16384x10, .f32⟩
  | _ => ⟨S16384x200x4, .f32⟩

abbrev hbmTy0_1 (i : Nat) : BufTy := match i % 128 with
  | 0 => ⟨S16384x10, .f32⟩
  | 1 => ⟨S16384x5x2, .f32⟩
  | 2 => ⟨S16384x5x2, .f32⟩
  | 3 => ⟨S16384x5x2, .f32⟩
  | 4 => ⟨S_, .f32⟩
  | 5 => ⟨S16384x5x2, .f32⟩
  | 6 => ⟨S16384x5x2, .f32⟩
  | 7 => ⟨S_, .f32⟩
  | 8 => ⟨S16384x5x2, .f32⟩
  | 9 => ⟨S16384x5x2, .f32⟩
  | _ => ⟨S16384x200x4, .f32⟩

abbrev hbmTy (i : Nat) : BufTy := match i / 128 with
  | 0 => hbmTy0_0 i
  | 1 => hbmTy0_1 i
  | _ => ⟨S16384x200x4, .f32⟩

abbrev bufTy : (tb : Table) → Fin (tcTables nBuf tb) → BufTy
  | .hbm, ⟨i, _⟩ => hbmTy i
  | _, _ => ⟨S16384x200x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev main_v3_7 : Ref sig .tc := ⟨.hbm, 22, rfl⟩
abbrev main_while0c_c_13 : Ref sig .tc := ⟨.hbm, 23, rfl⟩
abbrev main_while0c_v32 : Ref sig .tc := ⟨.hbm, 24, rfl⟩
abbrev main_while0b_call0_c : Ref sig .tc := ⟨.hbm, 25, rfl⟩
abbrev main_while0b_call0_c_0 : Ref sig .tc := ⟨.hbm, 26, rfl⟩
abbrev main_while0b_call0_v0 : Ref sig .tc := ⟨.hbm, 27, rfl⟩
abbrev main_while0b_v32 : Ref sig .tc := ⟨.hbm, 28, rfl⟩
abbrev main_while0b_v33 : Ref sig .tc := ⟨.hbm, 29, rfl⟩
abbrev main_while0b_values : Ref sig .tc := ⟨.hbm, 30, rfl⟩
abbrev main_while0b_indices : Ref sig .tc := ⟨.hbm, 31, rfl⟩
abbrev main_while0b_cst_13 : Ref sig .tc := ⟨.hbm, 32, rfl⟩
abbrev main_while0b_v34 : Ref sig .tc := ⟨.hbm, 33, rfl⟩
abbrev main_while0b_cst_14 : Ref sig .tc := ⟨.hbm, 34, rfl⟩
abbrev main_while0b_v35 : Ref sig .tc := ⟨.hbm, 35, rfl⟩
abbrev main_while0b_v36 : Ref sig .tc := ⟨.hbm, 36, rfl⟩
abbrev main_while0b_v37 : Ref sig .tc := ⟨.hbm, 37, rfl⟩
abbrev main_while0b_v38 : Ref sig .tc := ⟨.hbm, 38, rfl⟩
abbrev main_while0b_v39 : Ref sig .tc := ⟨.hbm, 39, rfl⟩
abbrev main_while0b_v40 : Ref sig .tc := ⟨.hbm, 40, rfl⟩
abbrev main_while0b_cst_15 : Ref sig .tc := ⟨.hbm, 41, rfl⟩
abbrev main_while0b_v41 : Ref sig .tc := ⟨.hbm, 42, rfl⟩
abbrev main_while0b_v42 : Ref sig .tc := ⟨.hbm, 43, rfl⟩
abbrev main_while0b_v43 : Ref sig .tc := ⟨.hbm, 44, rfl⟩
abbrev main_while0b_v44 : Ref sig .tc := ⟨.hbm, 45, rfl⟩
abbrev main_while0b_c_16 : Ref sig .tc := ⟨.hbm, 46, rfl⟩
abbrev main_while0b_v45 : Ref sig .tc := ⟨.hbm, 47, rfl⟩
abbrev main_while0b_v46 : Ref sig .tc := ⟨.hbm, 48, rfl⟩
abbrev main_while0b_c_17 : Ref sig .tc := ⟨.hbm, 49, rfl⟩
abbrev main_while0b_v47 : Ref sig .tc := ⟨.hbm, 50, rfl⟩
abbrev main_while0b_v48 : Ref sig .tc := ⟨.hbm, 51, rfl⟩
abbrev main_while0b_v49 : Ref sig .tc := ⟨.hbm, 52, rfl⟩
abbrev main_while0b_v50 : Ref sig .tc := ⟨.hbm, 53, rfl⟩
abbrev main_while0b_v51 : Ref sig .tc := ⟨.hbm, 54, rfl⟩
abbrev main_while0b_c_18 : Ref sig .tc := ⟨.hbm, 55, rfl⟩
abbrev main_while0b_v52 : Ref sig .tc := ⟨.hbm, 56, rfl⟩
abbrev main_while0b_v53 : Ref sig .tc := ⟨.hbm, 57, rfl⟩
abbrev main_while0b_c_19 : Ref sig .tc := ⟨.hbm, 58, rfl⟩
abbrev main_while0b_v54 : Ref sig .tc := ⟨.hbm, 59, rfl⟩
abbrev main_while0b_v55 : Ref sig .tc := ⟨.hbm, 60, rfl⟩
abbrev main_while0b_v56 : Ref sig .tc := ⟨.hbm, 61, rfl⟩
abbrev main_while0b_v57 : Ref sig .tc := ⟨.hbm, 62, rfl⟩
abbrev main_while0b_v58 : Ref sig .tc := ⟨.hbm, 63, rfl⟩
abbrev main_while0b_c_20 : Ref sig .tc := ⟨.hbm, 64, rfl⟩
abbrev main_while0b_v59 : Ref sig .tc := ⟨.hbm, 65, rfl⟩
abbrev main_while0b_v60 : Ref sig .tc := ⟨.hbm, 66, rfl⟩
abbrev main_while0b_c_21 : Ref sig .tc := ⟨.hbm, 67, rfl⟩
abbrev main_while0b_v61 : Ref sig .tc := ⟨.hbm, 68, rfl⟩
abbrev main_while0b_v62 : Ref sig .tc := ⟨.hbm, 69, rfl⟩
abbrev main_while0b_v63 : Ref sig .tc := ⟨.hbm, 70, rfl⟩
abbrev main_while0b_v64 : Ref sig .tc := ⟨.hbm, 71, rfl⟩
abbrev main_while0b_v65 : Ref sig .tc := ⟨.hbm, 72, rfl⟩
abbrev main_while0b_c_22 : Ref sig .tc := ⟨.hbm, 73, rfl⟩
abbrev main_while0b_v66 : Ref sig .tc := ⟨.hbm, 74, rfl⟩
abbrev main_while0b_v67 : Ref sig .tc := ⟨.hbm, 75, rfl⟩
abbrev main_while0b_c_23 : Ref sig .tc := ⟨.hbm, 76, rfl⟩
abbrev main_while0b_v68 : Ref sig .tc := ⟨.hbm, 77, rfl⟩
abbrev main_while0b_v69 : Ref sig .tc := ⟨.hbm, 78, rfl⟩
abbrev main_while0b_v70 : Ref sig .tc := ⟨.hbm, 79, rfl⟩
abbrev main_while0b_v71 : Ref sig .tc := ⟨.hbm, 80, rfl⟩
abbrev main_while0b_v72 : Ref sig .tc := ⟨.hbm, 81, rfl⟩
abbrev main_while0b_v73 : Ref sig .tc := ⟨.hbm, 82, rfl⟩
abbrev main_while0b_v74 : Ref sig .tc := ⟨.hbm, 83, rfl⟩
abbrev main_while0b_v75 : Ref sig .tc := ⟨.hbm, 84, rfl⟩
abbrev main_while0b_v76 : Ref sig .tc := ⟨.hbm, 85, rfl⟩
abbrev main_while0b_v77 : Ref sig .tc := ⟨.hbm, 86, rfl⟩
abbrev main_while0b_v78 : Ref sig .tc := ⟨.hbm, 87, rfl⟩
abbrev main_while0b_v79 : Ref sig .tc := ⟨.hbm, 88, rfl⟩
abbrev main_while0b_v80 : Ref sig .tc := ⟨.hbm, 89, rfl⟩
abbrev main_while0b_v81 : Ref sig .tc := ⟨.hbm, 90, rfl⟩
abbrev main_while0b_cst_24 : Ref sig .tc := ⟨.hbm, 91, rfl⟩
abbrev main_while0b_v82 : Ref sig .tc := ⟨.hbm, 92, rfl⟩
abbrev main_while0b_v83 : Ref sig .tc := ⟨.hbm, 93, rfl⟩
abbrev main_while0b_v84 : Ref sig .tc := ⟨.hbm, 94, rfl⟩
abbrev main_while0b_v85 : Ref sig .tc := ⟨.hbm, 95, rfl⟩
abbrev main_while0b_v86 : Ref sig .tc := ⟨.hbm, 96, rfl⟩
abbrev main_while0b_v87 : Ref sig .tc := ⟨.hbm, 97, rfl⟩
abbrev main_while0b_v88 : Ref sig .tc := ⟨.hbm, 98, rfl⟩
abbrev main_while0b_v89 : Ref sig .tc := ⟨.hbm, 99, rfl⟩
abbrev main_while0b_cst_25 : Ref sig .tc := ⟨.hbm, 100, rfl⟩
abbrev main_while0b_v90 : Ref sig .tc := ⟨.hbm, 101, rfl⟩
abbrev main_while0b_c_26 : Ref sig .tc := ⟨.hbm, 102, rfl⟩
abbrev main_while0b_v91 : Ref sig .tc := ⟨.hbm, 103, rfl⟩
abbrev main_v4 : Ref sig .tc := ⟨.hbm, 104, rfl⟩
abbrev main_v5 : Ref sig .tc := ⟨.hbm, 105, rfl⟩
abbrev main_v6 : Ref sig .tc := ⟨.hbm, 106, rfl⟩
abbrev main_v7 : Ref sig .tc := ⟨.hbm, 107, rfl⟩
abbrev main_v8 : Ref sig .tc := ⟨.hbm, 108, rfl⟩
abbrev main_v9 : Ref sig .tc := ⟨.hbm, 109, rfl⟩
abbrev main_cst_0 : Ref sig .tc := ⟨.hbm, 110, rfl⟩
abbrev main_v10 : Ref sig .tc := ⟨.hbm, 111, rfl⟩
abbrev main_v11 : Ref sig .tc := ⟨.hbm, 112, rfl⟩
abbrev main_v12 : Ref sig .tc := ⟨.hbm, 113, rfl⟩
abbrev main_cst_1 : Ref sig .tc := ⟨.hbm, 114, rfl⟩
abbrev main_v13 : Ref sig .tc := ⟨.hbm, 115, rfl⟩
abbrev main_v14 : Ref sig .tc := ⟨.hbm, 116, rfl⟩
abbrev main_v15 : Ref sig .tc := ⟨.hbm, 117, rfl⟩
abbrev main_cst_2 : Ref sig .tc := ⟨.hbm, 118, rfl⟩
abbrev main_v16 : Ref sig .tc := ⟨.hbm, 119, rfl⟩
abbrev main_v17 : Ref sig .tc := ⟨.hbm, 120, rfl⟩
abbrev main_cst_3 : Ref sig .tc := ⟨.hbm, 121, rfl⟩
abbrev main_v18 : Ref sig .tc := ⟨.hbm, 122, rfl⟩
abbrev main_v19 : Ref sig .tc := ⟨.hbm, 123, rfl⟩
abbrev main_v20 : Ref sig .tc := ⟨.hbm, 124, rfl⟩
abbrev main_v21 : Ref sig .tc := ⟨.hbm, 125, rfl⟩
abbrev main_v22 : Ref sig .tc := ⟨.hbm, 126, rfl⟩
abbrev main_v23 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_cst_4 : Ref sig .tc := ⟨.hbm, 132, rfl⟩
abbrev main_v28 : Ref sig .tc := ⟨.hbm, 133, rfl⟩
abbrev main_v29 : Ref sig .tc := ⟨.hbm, 134, rfl⟩
abbrev main_cst_5 : Ref sig .tc := ⟨.hbm, 135, rfl⟩
abbrev main_v30 : Ref sig .tc := ⟨.hbm, 136, rfl⟩
abbrev main_v31 : Ref sig .tc := ⟨.hbm, 137, rfl⟩

abbrev nD : Nat := 1
abbrev τ : Topo := Topo.v7x

variable {F : FTy → Type} [FloatOps F]

abbrev main_while0_count : Scf.Loop 32 := ⟨0#32, 200#32, 1#32⟩
-- ==== Proof.Cell.lean ====
module

public import Idealize.ShloMosaic.Lib.Pipeline.ValueKit
public import Idealize.ShloMosaic.Lib.SortFacts

/-! The liquid cell on one batch row, over the extended reals: the router's two greatest logits, the two gated Euler
steps, the state after `k` time steps, and the head. Both programs are compared with these functions. -/

@[expose] public section

noncomputable section

namespace Cert.Cell

open Idealize.ShloMosaic

/-! ## Constants -/

/-- The float pattern of minus infinity denotes the least extended real. -/
theorem ofBits_bot : Ideal.ofBits .f32 0xFF800000#32 = ⊥ := by
  simp [Ideal.ofBits, Ideal.ieee]

/-- The step size, as the float nearest 0.02. -/
def dt : EReal := Ideal.ofBits .f32 0x3CA3D70A#32

/-- The step size is a real number. -/
theorem dt_real : ∃ r : ℝ, dt = r := by
  show ∃ r : ℝ, Ideal.ieee 8 23 (0x3CA3D70A#32 : BitVec 32) = r
  unfold Ideal.ieee
  dsimp only
  rw [if_neg (by decide), if_neg (by decide)]
  exact ⟨_, rfl⟩

/-! ## Choosing the greatest entry -/

/-- `i` is the first position at which `L` is greatest. -/
def First (L : Fin 64 → EReal) (i : Fin 64) : Prop := ∀ e, L e ≤ L i ∧ (L e = L i → i ≤ e)

/-- A first greatest position exists. -/
theorem exists_first (L : Fin 64 → EReal) : ∃ i, First L i := by
  classical
  obtain ⟨m, -, hm⟩ := Finset.exists_max_image Finset.univ L ⟨0, Finset.mem_univ _⟩
  have hne : (Finset.univ.filter fun e => L e = L m).Nonempty := ⟨m, by simp⟩
  have h := Finset.min'_mem _ hne
  rw [Finset.mem_filter] at h
  refine ⟨(Finset.univ.filter fun e => L e = L m).min' hne, fun e => ?_⟩
  rw [h.2]
  exact ⟨hm e (Finset.mem_univ _), fun he => Finset.min'_le _ _ (by simp [he])⟩

/-- The first greatest position is unique. -/
theorem First.unique {L : Fin 64 → EReal} {i k : Fin 64} (hi : First L i) (hk : First L k) : i = k := by
  have e : L i = L k := le_antisymm (hk i).1 (hi k).1
  exact le_antisymm ((hi k).2 e.symm) ((hk i).2 e)

/-- The first position at which `L` is greatest. -/
def top (L : Fin 64 → EReal) : Fin 64 := Classical.choose (exists_first L)

/-- The first of the largest entries is that. -/
theorem top_first (L : Fin 64 → EReal) : First L (top L) := Classical.choose_spec (exists_first L)

/-- `L` with its first greatest entry replaced by minus infinity. -/
def mask (L : Fin 64 → EReal) (e : Fin 64) : EReal := if e = top L then ⊥ else L e

/-- The position of the second greatest entry. -/
def snd (L : Fin 64 → EReal) : Fin 64 := top (mask L)

/-- Above minus infinity everywhere, the second position differs from the first. -/
theorem snd_ne_top (L : Fin 64 → EReal) (h : ∀ e, ⊥ < L e) : snd L ≠ top L := by
  intro e
  obtain ⟨k, hk⟩ : ∃ k : Fin 64, k ≠ top L := exists_ne _
  have h1 := (top_first (mask L) k).1
  have h2 : mask L (top (mask L)) = ⊥ := by
    change mask L (snd L) = ⊥
    rw [e]; simp [mask]
  rw [h2] at h1
  simp only [mask, if_neg hk] at h1
  exact absurd (h k) (not_lt.mpr h1)

/-- The maximum over all positions is the entry at the first greatest one. -/
theorem fold_max_eq (L : Fin 64 → EReal) : Finset.univ.fold max ⊥ L = L (top L) := by
  refine le_antisymm ?_ ?_
  · rw [Finset.fold_max_le]
    exact ⟨bot_le, fun e _ => (top_first L e).1⟩
  · rw [Finset.le_fold_max]
    exact Or.inr ⟨_, Finset.mem_univ _, le_rfl⟩

/-- The least row number among the rows that hold the maximum is the first greatest position. -/
theorem fold_min_eq (L : Fin 64 → EReal) :
    Finset.univ.fold IntOp.minsi 2147483647#32
      (fun e : Fin 64 => if L e = L (top L) then BitVec.ofNat 32 e.val else 64#32) = BitVec.ofNat 32 (top L).val := by
  have hn : ∀ e : Fin 64, (BitVec.ofNat 32 e.val).toInt = e.val := by decide
  have hop : ∀ x y : BitVec 32, (IntOp.minsi x y).toInt = min x.toInt y.toInt := by
    intro x y
    unfold IntOp.minsi
    rw [BitVec.slt_eq_decide]
    by_cases h : x.toInt < y.toInt
    · simp [h, le_of_lt h]
    · simp [h, not_lt.mp h]
  apply BitVec.eq_of_toInt_eq
  rw [← Finset.fold_hom (op' := min) (m := BitVec.toInt) hop, hn]
  refine le_antisymm ?_ ?_
  · rw [Finset.fold_min_le]
    refine Or.inr ⟨top L, Finset.mem_univ _, ?_⟩
    rw [if_pos rfl, hn]
  · rw [Finset.le_fold_min]
    have hlt := (top L).isLt
    refine ⟨?_, fun e _ => ?_⟩
    · rw [show (2147483647#32 : BitVec 32).toInt = 2147483647 by decide]; omega
    · by_cases he : L e = L (top L)
      · rw [if_pos he, hn]
        exact_mod_cast (top_first L e).2 he
      · rw [if_neg he, show (64#32 : BitVec 32).toInt = 64 by decide]; omega

/-- Comparing row numbers as words is comparing positions. -/
theorem row_eq_iff (e i : Fin 64) : BitVec.ofNat 32 e.val = BitVec.ofNat 32 i.val ↔ e = i := by
  constructor
  · intro h
    have := congrArg BitVec.toNat h
    simp only [BitVec.toNat_ofNat] at this
    omega
  · rintro rfl; rfl

/-- A product with a one-hot column picks the entry of the hot row, whatever the other entries are. -/
theorem sum_onehot (p : Fin 64 → EReal) (w : Fin 64 → BitVec 1) (i : Fin 64) (hw : ∀ e, w e = 1#1 ↔ e = i) :
    ∑ e, p e * FloatOps.sitofp (F := Ideal) .f32 (BitVec.setWidth 32 (w e)) = p i := by
  have h1 : FloatOps.sitofp (F := Ideal) .f32 (BitVec.setWidth 32 1#1) = (1 : EReal) := by
    show (((BitVec.setWidth 32 (1#1 : BitVec 1)).toInt : ℝ) : EReal) = 1
    rw [show (BitVec.setWidth 32 (1#1 : BitVec 1)).toInt = 1 by decide]; simp
  have h0 : FloatOps.sitofp (F := Ideal) .f32 (BitVec.setWidth 32 0#1) = (0 : EReal) := by
    show (((BitVec.setWidth 32 (0#1 : BitVec 1)).toInt : ℝ) : EReal) = 0
    rw [show (BitVec.setWidth 32 (0#1 : BitVec 1)).toInt = 0 by decide]; simp
  rw [Finset.sum_eq_single i]
  · rw [(hw i).mpr rfl, h1, mul_one]
  · intro e _ he
    have : w e = 0#1 := by
      have hb : ∀ b : BitVec 1, b ≠ 1#1 → b = 0#1 := by decide
      exact hb _ fun h => he ((hw e).mp h)
    rw [this, h0, mul_zero]
  · intro h; exact absurd (Finset.mem_univ _) h

/-! ## Real values -/

/-- A value that is a real number. -/
def IsReal (x : EReal) : Prop := ∃ r : ℝ, x = r

/-- A sum of reals is real. -/
theorem IsReal.add {x y : EReal} : IsReal x → IsReal y → IsReal (x + y)
  | ⟨a, ha⟩, ⟨b, hb⟩ => ⟨a + b, by rw [ha, hb]; rfl⟩
/-- A difference of reals is real. -/
theorem IsReal.sub {x y : EReal} : IsReal x → IsReal y → IsReal (x - y)
  | ⟨a, ha⟩, ⟨b, hb⟩ => ⟨a - b, by rw [ha, hb]; rfl⟩
/-- A product of reals is real. -/
theorem IsReal.mul {x y : EReal} : IsReal x → IsReal y → IsReal (x * y)
  | ⟨a, ha⟩, ⟨b, hb⟩ => ⟨a * b, by rw [ha, hb]; rfl⟩
/-- Zero is real. -/
theorem IsReal.zero : IsReal 0 := ⟨0, rfl⟩
/-- One is real. -/
theorem IsReal.one : IsReal 1 := ⟨1, rfl⟩

/-- A finite sum of reals is real. -/
theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih

/-- The exponential of a real number is a positive real number. -/
theorem exp_pos {x : EReal} : IsReal x → ∃ r : ℝ, Ideal.exp x = r ∧ 0 < r
  | ⟨a, ha⟩ => ⟨Real.exp a, by rw [ha]; rfl, Real.exp_pos a⟩

/-- The hyperbolic tangent of any extended real is a real number. -/
theorem tanh_real (x : EReal) : IsReal (Ideal.tanh x) := by
  induction x with
  | bot => exact ⟨-1, rfl⟩
  | top => exact ⟨1, rfl⟩
  | coe r => exact ⟨Real.tanh r, rfl⟩

/-- A quotient of reals by a positive real is the real quotient. -/
theorem div_coe (a b : ℝ) (hb : 0 < b) : Ideal.div a b = ((a / b : ℝ) : EReal) := by
  unfold Ideal.div
  rw [if_neg (by exact_mod_cast hb.ne'), div_eq_mul_inv]
  rfl

/-- A real is above the least extended real. -/
theorem IsReal.above {x : EReal} : IsReal x → ⊥ < x
  | ⟨a, ha⟩ => by rw [ha]; exact EReal.bot_lt_coe a

/-- A real number is what lies strictly between the two infinities in absolute value. -/
theorem isReal_of_lt {x : EReal} (h1 : x ≠ ⊤) (h2 : x ≠ ⊥) : IsReal x := ⟨x.toReal, (EReal.coe_toReal h1 h2).symm⟩

/-! ## The cell -/

/-- The parameters of the cell: the router, the experts' input and recurrent weights, their biases and the logarithms
of their time constants. -/
structure Par where
  wR : Fin 4 → Fin 64 → EReal
  wI : Fin 64 → Fin 4 → Fin 4 → EReal
  wH : Fin 64 → Fin 4 → Fin 4 → EReal
  bE : Fin 64 → Fin 4 → EReal
  lt : Fin 64 → Fin 4 → EReal

namespace Par
variable (p : Par)

/-- The router's logits of an input row. -/
def logit (x : Fin 4 → EReal) (e : Fin 64) : EReal := ∑ d, x d * p.wR d e

/-- Expert `e`'s activation. -/
def act (x h : Fin 4 → EReal) (e : Fin 64) (j : Fin 4) : EReal :=
  Ideal.tanh ((∑ d, x d * p.wI e d j) + (∑ d, h d * p.wH e d j) + p.bE e j)

/-- Expert `e`'s Euler step. -/
def euler (x h : Fin 4 → EReal) (e : Fin 64) (j : Fin 4) : EReal :=
  h j + Ideal.div (dt * (p.act x h e j - h j)) (Ideal.exp (p.lt e j))

/-- The greater gate's complement over the greater gate: the exponential of the logits' difference. -/
def ratio (x : Fin 4 → EReal) : EReal :=
  Ideal.exp (p.logit x (snd (p.logit x)) - p.logit x (top (p.logit x)))

/-- One time step: the two chosen experts' Euler steps, gated. -/
def step (x h : Fin 4 → EReal) (j : Fin 4) : EReal :=
  Ideal.div 1 (1 + p.ratio x) * p.euler x h (top (p.logit x)) j
    + Ideal.div (p.ratio x) (1 + p.ratio x) * p.euler x h (snd (p.logit x)) j

/-- The state after `k` time steps from zero. -/
def state (xs : ℕ → Fin 4 → EReal) : ℕ → Fin 4 → EReal
  | 0 => fun _ => 0
  | k + 1 => p.step (xs k) (state xs k)

/-- The router and the time constants' logarithms are real. -/
structure Fine : Prop where
  wR : ∀ d e, IsReal (p.wR d e)
  lt : ∀ e j, IsReal (p.lt e j)

variable {p}

/-- The logits are real. -/
theorem logit_real (hp : p.Fine) {x : Fin 4 → EReal} (hx : ∀ d, IsReal (x d)) (e : Fin 64) : IsReal (p.logit x e) :=
  IsReal.sum _ _ fun d => (hx d).mul (hp.wR d e)

/-- The ratio of the two gates is a positive real. -/
theorem ratio_pos (hp : p.Fine) {x : Fin 4 → EReal} (hx : ∀ d, IsReal (x d)) : ∃ r : ℝ, p.ratio x = r ∧ 0 < r :=
  exp_pos ((logit_real hp hx _).sub (logit_real hp hx _))

/-- An Euler step is real. -/
theorem euler_real (hp : p.Fine) {x h : Fin 4 → EReal} (hh : ∀ j, IsReal (h j)) (e : Fin 64) (j : Fin 4) :
    IsReal (p.euler x h e j) := by
  obtain ⟨r, hr, r0⟩ := exp_pos (hp.lt e j)
  obtain ⟨a, ha⟩ := IsReal.mul dt_real ((show IsReal (p.act x h e j) from tanh_real _).sub (hh j))
  refine (hh j).add ⟨a / r, ?_⟩
  rw [ha, hr, div_coe a r r0]

/-- A time step from a real state leaves a real state. -/
theorem step_real (hp : p.Fine) {x h : Fin 4 → EReal} (hx : ∀ d, IsReal (x d)) (hh : ∀ j, IsReal (h j)) (j : Fin 4) :
    IsReal (p.step x h j) := by
  obtain ⟨r, hr, r0⟩ := ratio_pos hp hx
  have h1 : (1 : EReal) + p.ratio x = ((1 + r : ℝ) : EReal) := by rw [hr]; rfl
  unfold step
  rw [h1, hr]
  exact (IsReal.mul ⟨_, div_coe 1 (1 + r) (by positivity)⟩ (euler_real hp hh _ j)).add
    (IsReal.mul ⟨_, div_coe r (1 + r) (by positivity)⟩ (euler_real hp hh _ j))

/-- Every state is real when the inputs are. -/
theorem state_real (hp : p.Fine) {xs : ℕ → Fin 4 → EReal} (hx : ∀ k d, IsReal (xs k d)) :
    ∀ k j, IsReal (p.state xs k j)
  | 0, _ => IsReal.zero
  | k + 1, j => step_real hp (hx k) (state_real hp hx k) j

/-- The Euler step written with the reciprocal time constant as an exponential. -/
theorem euler_eq (hp : p.Fine) {x h : Fin 4 → EReal} (hh : ∀ j, IsReal (h j)) (e : Fin 64) (j : Fin 4) :
    h j + dt * Ideal.exp (-p.lt e j) * (p.act x h e j - h j) = p.euler x h e j := by
  obtain ⟨d, hd⟩ := dt_real
  obtain ⟨a, ha⟩ := tanh_real ((∑ d, x d * p.wI e d j) + (∑ d, h d * p.wH e d j) + p.bE e j)
  obtain ⟨b, hb⟩ := hh j
  obtain ⟨l, hl⟩ := hp.lt e j
  have ha' : p.act x h e j = a := ha
  have he : Ideal.exp ((l : ℝ) : EReal) = (Real.exp l : EReal) := rfl
  have hn : Ideal.exp (-((l : ℝ) : EReal)) = (Real.exp (-l) : EReal) := rfl
  have hs : (a : EReal) - (b : EReal) = ((a - b : ℝ) : EReal) := rfl
  have hm : (d : EReal) * ((a - b : ℝ) : EReal) = ((d * (a - b) : ℝ) : EReal) := rfl
  unfold euler
  rw [ha', hb, hl, hd, he, hn, hs, hm, div_coe _ _ (Real.exp_pos l), Real.exp_neg, div_eq_mul_inv]
  rw [show d * (a - b) * (Real.exp l)⁻¹ = d * (Real.exp l)⁻¹ * (a - b) by ring]
  rfl

/-- The lesser gate as the greater gate scaled. -/
theorem gate_eq (hp : p.Fine) {x : Fin 4 → EReal} (hx : ∀ d, IsReal (x d)) :
    p.ratio x * Ideal.div 1 (1 + p.ratio x) = Ideal.div (p.ratio x) (1 + p.ratio x) := by
  obtain ⟨r, hr, r0⟩ := ratio_pos hp hx
  have h1 : (1 : EReal) + p.ratio x = ((1 + r : ℝ) : EReal) := by rw [hr]; rfl
  have h0 : (0 : ℝ) < 1 + r := by positivity
  have hd : Ideal.div 1 ((1 + r : ℝ) : EReal) = ((1 / (1 + r) : ℝ) : EReal) := div_coe 1 _ h0
  rw [h1, hr, hd, div_coe _ _ h0, div_eq_mul_one_div r]
  rfl

end Par

/-! ## The head -/

/-- The hidden unit's activation, the tanh form of the Gaussian error linear unit. -/
def gelu (v : EReal) : EReal :=
  v * (Ideal.ofBits .f32 0x3F000000#32 * (1 + Ideal.tanh (Ideal.ofBits .f32 0x3F4C422A#32
    * (v + Ideal.ofBits .f32 0x3D372713#32 * (v * (v * v))))))

/-- The head's output `o` from a state. -/
def head (w1 : Fin 4 → Fin 32 → EReal) (b1 : Fin 32 → EReal) (w2 : Fin 32 → Fin 10 → EReal) (b2 : Fin 10 → EReal)
    (h : Fin 4 → EReal) (o : Fin 10) : EReal :=
  Ideal.div 1 (1 + Ideal.exp (-((∑ u, gelu ((∑ d, h d * w1 d u) + b1 u) * w2 u o) + b2 o)))

end Cert.Cell
-- ==== Proof.Trip.lean ====
module

public import proofs.«01_k».proof.Proof.Gen.KernelIdeal.Skeleton
public import proofs.«01_k».proof.Proof.Cell

/-! One trip of the kernel's time loop, read at one batch column: the payloads of the body over arbitrary blocks. -/

@[expose] public section

set_option maxRecDepth 16384

noncomputable section

open Idealize.ShloMosaic Idealize.ShloMosaic.TcCoe Idealize.SL.Sem
namespace Cert.KernelIdeal.Trip
open Cert.KernelIdeal Cert.KernelIdeal.Gen Cert.Cell

variable (p : Par) (v1 : FVec Ideal S64x4 .f32) (v3 : FVec Ideal S80x64 .f32) (v38 : FVec Ideal S1x4x1024 .f32)
  (h : FVec Ideal S8x1024 .f32)

/-- The expert numbers along the rows of a `[64, 1024]` block. -/
abbrev rows : IVec S64x1024 32 := iota .tc S64x1024 32 [0] iota_S64x1024_d0_w32
/-- The input row of column `l`. -/
abbrev xcol (l : Fin 1024) (d : Fin 4) : EReal := v38 (ix3 (0 : Fin 1) d l)
/-- The state of column `l`. -/
abbrev hcol (l : Fin 1024) (j : Fin 4) : EReal := h (ix2 (⟨j.val, by omega⟩ : Fin 8) l)

/-- The packed parameter blocks hold the parameters `p`: the router transposed; in the eighty rows the input weights,
the recurrent weights, the biases, and the step size over the time constant. -/
structure Packed : Prop where
  wR : ∀ (e : Fin 64) (d : Fin 4), v1 (ix2 e d) = p.wR d e
  wI : ∀ (e : Fin 64) (d j : Fin 4), v3 (ix2 (⟨8 * d.val + j.val, by omega⟩ : Fin 80) e) = p.wI e d j
  wH : ∀ (e : Fin 64) (d j : Fin 4), v3 (ix2 (⟨32 + (8 * d.val + j.val), by omega⟩ : Fin 80) e) = p.wH e d j
  bE : ∀ (e : Fin 64) (j : Fin 4), v3 (ix2 (⟨64 + j.val, by omega⟩ : Fin 80) e) = p.bE e j
  dE : ∀ (e : Fin 64) (j : Fin 4), v3 (ix2 (⟨72 + j.val, by omega⟩ : Fin 80) e) = dt * Ideal.exp (-p.lt e j)

/-- Two row numbers compare equal as words exactly where they are the same row. -/
theorem eq_bit_iff (e i : Fin 64) :
    IntOp.cmpi CmpIPredicate.eq (BitVec.ofNat 32 e.val) (BitVec.ofNat 32 i.val) = 1#1 ↔ e = i := by
  rw [← row_eq_iff e i]
  unfold IntOp.cmpi
  by_cases h : BitVec.ofNat 32 e.val = BitVec.ofNat 32 i.val
  · simp [h]
  · simp only [h, iff_false]
    rw [show (BitVec.ofNat 32 e.val == BitVec.ofNat 32 i.val) = false from beq_eq_false_iff_ne.2 h]
    decide

variable {p v1 v3}
variable (hP : Packed p v1 v3) {c : Ideal .f32} (hc : c = (⊥ : EReal))

include hP in
/-- The kernel's logits are the router's. -/
theorem logits_at (e : Fin 64) (l : Fin 1024) : k0_pay3 v1 v38 (ix2 e l) = p.logit (xcol v38 l) e := by
  pointwise [k0_pay3, k0_pay2]
  rw [hP.wR, hP.wR, hP.wR, hP.wR]
  unfold Par.logit
  rw [Fin.sum_univ_four]
  simp only [mul_comm]

include hP in
/-- The kernel's column maximum is the greatest logit. -/
theorem max_at (l : Fin 1024) :
    k0_pay4 v1 v38 (ix2 (0 : Fin 1) l) = p.logit (xcol v38 l) (top (p.logit (xcol v38 l))) := by
  pointwise [k0_pay4]
  simp only [logits_at v38 hP]
  rw [ofBits_bot]
  exact fold_max_eq _

include hP in
/-- The kernel's first hot row is the greatest logit's. -/
theorem hot1 (e : Fin 64) (l : Fin 1024) :
    k0_pay5 v1 rows 64#32 v38 (ix2 e l) = 1#1 ↔ e = top (p.logit (xcol v38 l)) := by
  pointwise [k0_pay5]
  simp only [logits_at v38 hP, max_at v38 hP]
  rw [fold_min_eq]
  exact eq_bit_iff _ _

include hP hc in
/-- The logits with the greatest one masked. -/
theorem masked_at (e : Fin 64) (l : Fin 1024) :
    k0_pay6 v1 rows 64#32 c v38 (ix2 e l) = mask (p.logit (xcol v38 l)) e := by
  pointwise [k0_pay6]
  rw [logits_at v38 hP]
  unfold Scalar.select mask
  by_cases h : e = top (p.logit (xcol v38 l))
  · rw [if_pos h, (hot1 v38 hP e l).2 h, if_pos (by decide)]; exact hc
  · rw [if_neg h, if_neg]
    intro hb
    exact h ((hot1 v38 hP e l).1 (by simpa using hb))

include hP hc in
/-- The kernel's second column maximum is the masked logits' greatest. -/
theorem max2_at (l : Fin 1024) :
    k0_pay7 v1 rows 64#32 c v38 (ix2 (0 : Fin 1) l)
      = mask (p.logit (xcol v38 l)) (Cell.snd (p.logit (xcol v38 l))) := by
  pointwise [k0_pay7]
  simp only [masked_at v38 hP hc]
  rw [ofBits_bot]
  exact fold_max_eq _

include hP hc in
/-- The kernel's second hot row is the second greatest logit's. -/
theorem hot2 (e : Fin 64) (l : Fin 1024) :
    k0_pay8 v1 rows 64#32 c v38 (ix2 e l) = 1#1 ↔ e = Cell.snd (p.logit (xcol v38 l)) := by
  pointwise [k0_pay8]
  simp only [masked_at v38 hP hc, max2_at v38 hP hc]
  rw [Cell.snd, fold_min_eq]
  exact eq_bit_iff _ _

include hP hc in
/-- The second gate over the first. -/
theorem ratio_at (l : Fin 1024) (hL : ∀ e, ⊥ < p.logit (xcol v38 l) e) :
    k0_pay9 v1 rows 64#32 c v38 (ix2 (0 : Fin 1) l) = p.ratio (xcol v38 l) := by
  pointwise [k0_pay9]
  rw [max2_at v38 hP hc, max_at v38 hP]
  unfold mask Par.ratio
  rw [if_neg (snd_ne_top _ hL)]

/-- The two gates' common denominator. -/
theorem total_at (l : Fin 1024) :
    k0_pay10 v1 rows 64#32 c v38 (ix2 (0 : Fin 1) l) = 1 + k0_pay9 v1 rows 64#32 c v38 (ix2 (0 : Fin 1) l) := by
  pointwise [k0_pay10]

/-- The first gate. -/
theorem gate1_at (v88 : FVec Ideal S1x1024 .f32) (l : Fin 1024) :
    k0_pay11 v88 (ix2 (0 : Fin 1) l) = Ideal.div 1 (v88 (ix2 (0 : Fin 1) l)) := by
  pointwise [k0_pay11]

/-- The second gate. -/
theorem gate2_at (v86 v88 : FVec Ideal S1x1024 .f32) (l : Fin 1024) :
    k0_pay12 v86 v88 (ix2 (0 : Fin 1) l)
      = v86 (ix2 (0 : Fin 1) l) * Ideal.div 1 (v88 (ix2 (0 : Fin 1) l)) := by
  pointwise [k0_pay12, k0_pay11]

include hP in
/-- The first expert's updated state. -/
theorem cell1 (w : IVec S64x1024 1) (i : Fin 64) (l : Fin 1024) (hw : ∀ e, w (ix2 e l) = 1#1 ↔ e = i) (j : Fin 4) :
    k0_pay13 v3 h (k0_pay2 v38) w (ix2 (⟨j.val, by omega⟩ : Fin 8) l)
      = hcol h l j + dt * Ideal.exp (-p.lt i j) * (p.act (xcol v38 l) (hcol h l) i j - hcol h l j) := by
  have hs : ∀ r : Fin 80, ∑ e, v3 (ix2 r e) * FloatOps.sitofp (F := Ideal) .f32 (BitVec.setWidth 32 (w (ix2 e l)))
      = v3 (ix2 r i) := fun r => sum_onehot (fun e => v3 (ix2 r e)) (fun e => w (ix2 e l)) i hw
  have i0 := hP.wI i 0 j
  have i1 := hP.wI i 1 j
  have i2 := hP.wI i 2 j
  have i3 := hP.wI i 3 j
  have r0 := hP.wH i 0 j
  have r1 := hP.wH i 1 j
  have r2 := hP.wH i 2 j
  have r3 := hP.wH i 3 j
  simp [← Nat.add_assoc] at i0 i1 i2 i3 r0 r1 r2 r3
  pointwise [k0_pay13, k0_pay2]
  simp only [hs]
  simp only [hP.bE, hP.dE, i0, i1, i2, i3, r0, r1, r2, r3]
  unfold Par.act
  rw [Fin.sum_univ_four, Fin.sum_univ_four]
  have e : ∀ b x0 h0 x1 h1 x2 h2 x3 h3 : EReal,
      b + x0 + h0 + x1 + h1 + x2 + h2 + x3 + h3 = (x0 + x1 + x2 + x3) + (h0 + h1 + h2 + h3) + b := by
    intros; abel
  rw [e]
  rfl

/-- The trip's yield: the two gated updates added. -/
theorem yield_eq (x4 : FVec Ideal S4x1024 .f32) (g1 g2 : FVec Ideal S1x1024 .f32) (u : FVec Ideal S8x1024 .f32)
    (w : IVec S64x1024 1) (j : Fin 8) (l : Fin 1024) :
    k0_pay20 h x4 g1 g2 u (k0_pay14 v3 w) (k0_pay15 v3 w) (k0_pay16 x4) (ix2 j l)
      = g1 (ix2 (0 : Fin 1) l) * u (ix2 j l) + g2 (ix2 (0 : Fin 1) l) * k0_pay13 v3 h x4 w (ix2 j l) := by
  pointwise [k0_pay20, k0_pay14, k0_pay15, k0_pay16, k0_pay13]

/-- What one trip of the time loop leaves, over the blocks it reads. -/
def yield (v1 : FVec Ideal S64x4 .f32) (v3 : FVec Ideal S80x64 .f32) (c : Ideal .f32)
    (v38 : FVec Ideal S1x4x1024 .f32) (h : FVec Ideal S8x1024 .f32) : FVec Ideal S8x1024 .f32 :=
  k0_pay20 h (k0_pay2 v38) (k0_pay11 (k0_pay10 v1 rows 64#32 c v38))
    (k0_pay12 (k0_pay9 v1 rows 64#32 c v38) (k0_pay10 v1 rows 64#32 c v38))
    (k0_pay13 v3 h (k0_pay2 v38) (k0_pay5 v1 rows 64#32 v38))
    (k0_pay14 v3 (k0_pay8 v1 rows 64#32 c v38)) (k0_pay15 v3 (k0_pay8 v1 rows 64#32 c v38))
    (k0_pay16 (k0_pay2 v38))

include hP hc in
/-- One trip steps the state of every column. -/
theorem yield_at (hp : p.Fine) (l : Fin 1024) (hx : ∀ d, IsReal (xcol v38 l d)) (hh : ∀ j, IsReal (hcol h l j)) (j : Fin 4) :
    hcol (yield v1 v3 c v38 h) l j = p.step (xcol v38 l) (hcol h l) j := by
  have hL : ∀ e, ⊥ < p.logit (xcol v38 l) e := fun e => (p.logit_real hp hx e).above
  unfold hcol yield
  rw [yield_eq, gate1_at, gate2_at, total_at, ratio_at v38 hP hc l hL,
    cell1 v38 h hP _ _ l (fun e => hot1 v38 hP e l), cell1 v38 h hP _ _ l (fun e => hot2 v38 hP hc e l),
    p.euler_eq hp hh, p.euler_eq hp hh, p.gate_eq hp hx]
  rfl

end Cert.KernelIdeal.Trip
-- ==== Proof.Operands.lean ====
module

public import proofs.«01_k».proof.Proof.Gen.KernelIdeal.Frame
public import proofs.«01_k».proof.Proof.Trip

/-! What the host computes before the kernel: each operand as a term over the arguments. -/

@[expose] public section

set_option maxRecDepth 16384

noncomputable section

open Idealize.ShloMosaic Idealize.ShloMosaic.TcCoe Idealize.SL.Sem
namespace Cert.KernelIdeal.Operands
open Cert.KernelIdeal Cert.KernelIdeal.Gen

/-- Zero, as the host pads with it. -/
abbrev zero : FVec Ideal S_ .f32 := sitofp .f32 (constantI S_ 32 0#32)

/-- One of the two weight tables, packed: expert last, four rows padded to eight, rows joined. -/
abbrev packed (w : FVec Ideal S64x4x4 .f32) : FVec Ideal S32x64 .f32 :=
  shapeCast S32x64 (pad S4x8x64 ![0, 0, 0] ![0, 4, 0] ![0, 0, 0] (transpose S4x4x64 [1, 2, 0] w transposes_S64x4x4_S4x4x64_1_2_0) zero
    pads_S4x4x64_S4x8x64_000_040_000 h_S_) shapeCasts_S4x8x64_S32x64

/-- A per-expert row table, transposed and padded to eight rows. -/
abbrev padded (w : FVec Ideal S4x64 .f32) : FVec Ideal S8x64 .f32 :=
  pad S8x64 ![0, 0] ![4, 0] ![0, 0] w zero pads_S4x64_S8x64_040_000 h_S_

/-- The step size over the time constants. -/
abbrev rates (lt : FVec Ideal S64x4 .f32) : FVec Ideal S4x64 .f32 :=
  mulf (broadcastInDim S4x64 ![] bcast_S_S4x64 (constant S_ .f32 0x3CA3D70A#32))
    (transpose S4x64 [1, 0] (Host.exp (Host.negf lt)) transposes_S64x4_S4x64_1_0)

/-- A concatenation of four buffers holds the concatenation of their contents. -/
theorem concat_read (F : Valuation τ sig (Elt Ideal)) (A B : FVec Ideal S32x64 .f32) (C D : FVec Ideal S8x64 .f32) (h1 h2)
    (hA : F (Proc.devRef .tc main_v11) = A) (hB : F (Proc.devRef .tc main_v14) = B)
    (hC : F (Proc.devRef .tc main_v2) = C) (hD : F (Proc.devRef .tc main_v8) = D) :
    (StableHlo.nary (τ := τ) ![main_v11, main_v14, main_v2, main_v8] main_v15 (fun u => (concatenate S80x64 0 [⟨S32x64, (u 0 : (⟨S32x64, .f32⟩ : BufTy).Contents (Elt Ideal))⟩, ⟨S32x64, (u 1 : (⟨S32x64, .f32⟩ : BufTy).Contents (Elt Ideal))⟩, ⟨S8x64, (u 2 : (⟨S8x64, .f32⟩ : BufTy).Contents (Elt Ideal))⟩, ⟨S8x64, (u 3 : (⟨S8x64, .f32⟩ : BufTy).Contents (Elt Ideal))⟩] concatenates_S32x64_S32x64_S8x64_S8x64_S80x64_d0 : (⟨S80x64, .f32⟩ : BufTy).Contents (Elt Ideal))) h1 h2).result F (Proc.devRef .tc main_v15)
      = concatenate S80x64 0 [⟨S32x64, A⟩, ⟨S32x64, B⟩, ⟨S8x64, C⟩, ⟨S8x64, D⟩] concatenates_S32x64_S32x64_S8x64_S8x64_S80x64_d0 := by
  subst hA hB hC hD
  exact StableHlo.nary4_result _ _ _ _

variable (m : (ℓ : Loc nD τ sig) → Buf (Elt Ideal) ℓ) (c : Dev nD)

/-- Argument `b`'s contents on device `c`. -/
abbrev at_ (b : Ref sig .tc) : Buf (Elt Ideal) ((c : Thread nD τ).loc b) := m (c, Proc.devRef .tc b)

/-- The input sequence, batch last. -/
theorem V_x : V m c main_v0 = transpose S200x4x16384 [1, 2, 0] (at_ m c main_arg0) transposes_S16384x200x4_S200x4x16384_1_2_0 := by
  unfold V V0
  simp only [List.flatten_cons, List.flatten_nil, List.cons_append, List.nil_append, List.append_nil]
  after_results

/-- The router, transposed. -/
theorem V_router : V m c main_v16 = transpose S64x4 [1, 0] (at_ m c main_arg1) transposes_S4x64_S64x4_1_0 := by
  unfold V V0
  simp only [List.flatten_cons, List.flatten_nil, List.cons_append, List.nil_append, List.append_nil]
  after_results

/-- The experts' parameters, packed in eighty rows. -/
theorem V_experts : V m c main_v15 = concatenate S80x64 0 [⟨S32x64, packed (at_ m c main_arg2)⟩, ⟨S32x64, packed (at_ m c main_arg3)⟩,
    ⟨S8x64, padded (transpose S4x64 [1, 0] (at_ m c main_arg4) transposes_S64x4_S4x64_1_0)⟩,
    ⟨S8x64, padded (rates (at_ m c main_arg5))⟩] concatenates_S32x64_S32x64_S8x64_S8x64_S80x64_d0 := by
  unfold V V0
  simp only [List.flatten_cons, List.flatten_nil, List.cons_append, List.nil_append, List.append_nil, StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide))
  refine concat_read _ _ _ _ _ _ _ ?_ ?_ ?_ ?_
  all_goals after_results_simp
  all_goals rfl

/-- The first layer's weights, transposed and padded to eight columns. -/
theorem V_w1 : V m c main_v18 = pad S32x8 ![0, 0] ![0, 4] ![0, 0] (transpose S32x4 [1, 0] (at_ m c main_arg6) transposes_S4x32_S32x4_1_0) zero
    pads_S32x4_S32x8_000_040 h_S_ := by
  unfold V V0
  simp only [List.flatten_cons, List.flatten_nil, List.cons_append, List.nil_append, List.append_nil]
  after_results
  rfl

/-- The first layer's biases as a column. -/
theorem V_b1 : V m c main_v19 = shapeCast S32x1 (at_ m c main_arg7) shapeCasts_S32_S32x1 := by
  unfold V V0
  simp only [List.flatten_cons, List.flatten_nil, List.cons_append, List.nil_append, List.append_nil]
  after_results
  rfl

/-- The second layer's weights, transposed and padded to sixteen rows. -/
theorem V_w2 : V m c main_v21 = pad S16x32 ![0, 0] ![6, 0] ![0, 0] (transpose S10x32 [1, 0] (at_ m c main_arg8) transposes_S32x10_S10x32_1_0) zero
    pads_S10x32_S16x32_060_000 h_S_ := by
  unfold V V0
  simp only [List.flatten_cons, List.flatten_nil, List.cons_append, List.nil_append, List.append_nil]
  after_results
  rfl

/-- The second layer's biases, padded, as a column. -/
theorem V_b2 : V m c main_v23 = shapeCast S16x1 (pad S16 ![0] ![6] ![0] (at_ m c main_arg9) zero pads_S10_S16_060 h_S_) shapeCasts_S16_S16x1 := by
  unfold V V0
  simp only [List.flatten_cons, List.flatten_nil, List.cons_append, List.nil_append, List.append_nil]
  after_results
  rfl

end Cert.KernelIdeal.Operands
-- ==== Proof.Block.lean ====
module

public import proofs.«01_k».proof.Proof.Gen.KernelIdeal.Frame
public import proofs.«01_k».proof.Proof.Trip

/-! What one grid point writes: the trips of its time loop, then the two-layer head, column by column. -/

@[expose] public section

set_option maxRecDepth 16384

noncomputable section

open Idealize.ShloMosaic Idealize.ShloMosaic.TcCoe Idealize.SL.Sem
namespace Cert.KernelIdeal.Block
open Cert.KernelIdeal Cert.KernelIdeal.Gen Cert.Cell Cert.KernelIdeal.Trip

/-- The input row of column `l` at time `k`, of a block of all times. -/
abbrev xat (X : Vec Ideal S200x4x1024 .f32) (l : Fin 1024) (k : ℕ) (d : Fin 4) : EReal :=
  if h : k < 200 then X (ix3 (⟨k, h⟩ : Fin 200) d l) else 0

section
variable (𝒱 : Variants) (c : Dev nD) (bd : Option 𝒱.V) (i : grid0.Coords)
  (arg1 : Memref sig .tc .vmem S200x4x1024 .f32) (harg1 : arg1.IsWhole)
  (arg2 : Memref sig .tc .vmem S64x4 .f32) (harg2 : arg2.IsWhole)
  (arg3 : Memref sig .tc .vmem S80x64 .f32) (harg3 : arg3.IsWhole)
  (arg4 : Memref sig .tc .vmem S32x8 .f32) (harg4 : arg4.IsWhole)
  (arg5 : Memref sig .tc .vmem S32x1 .f32) (harg5 : arg5.IsWhole)
  (arg6 : Memref sig .tc .vmem S16x32 .f32) (harg6 : arg6.IsWhole)
  (arg7 : Memref sig .tc .vmem S16x1 .f32) (harg7 : arg7.IsWhole)
  (arg8 : Memref sig .tc .vmem S16x1024 .f32) (harg8 : arg8.IsWhole)
  (v0 : Vec Ideal S64x4 .f32) (v2 : Vec Ideal S80x64 .f32) (a : Ideal .f32) (X : Vec Ideal S200x4x1024 .f32)

/-- The rows of time `k` of the block. -/
abbrev xrow (k : Fin k0_t1_loop.trips) : FVec Ideal S1x4x1024 .f32 :=
  View.ld X (Rect.unit (s := S200x4x1024) (k0_off1 k) S1x4x1024.size (k0_off1_inb k))

/-- A trip's yield is the payloads' over the rows of its time. -/
theorem trip_eq (k : Fin k0_t1_loop.trips) (acc : FVec Ideal S8x1024 .f32) :
    tripR_k0_t1 (F := Ideal) 𝒱 c bd i arg1 harg1 arg2 harg2 arg3 harg3 arg4 harg4 arg5 harg5 arg6 harg6 arg7 harg7 arg8 harg8
        v0 v2 rows a (harg1.unread X) k acc
      = yield (k0_pay17 v0) (k0_pay18 v2) a (xrow X k) acc := by
  have e : View.readAt (Elt Ideal) arg1.view (Rect.unit (s := S200x4x1024) (k0_off1 k) S1x4x1024.size (k0_off1_inb k)).toLoadRect
      (harg1.unread X) = xrow X k := by
    rw [View.readAt_eq_ld, harg1.read_unread]
  rw [← e]
  unfold tripR_k0_t1 trip_k0_t1
  rfl

/-- The loop makes a trip per time. -/
theorem trips_eq : k0_t1_loop.trips = 200 := by decide +kernel

/-- Trip `k` reads the input at time `k`. -/
theorem off_eq : ∀ k : Fin k0_t1_loop.trips, k0_off1 k = ![k.val, 0, 0] := by decide +kernel

/-- What trip `k` reads at a column is the input at time `k`. -/
theorem xrow_at (k : Fin k0_t1_loop.trips) (l : Fin 1024) : xcol (xrow X k) l = xat X l k.val := by
  funext d
  have hk : k.val < 200 := trips_eq ▸ k.isLt
  show View.ld X _ _ = _
  unfold xat
  rw [dif_pos hk]
  refine View.ld_unit_apply_of X _ _ _ _ _ fun b => ?_
  rw [congrFun (off_eq k) b]
  fin_cases b <;> simp

variable {p : Par} {v0 v2 a X} (hP : Packed p (k0_pay17 v0) (k0_pay18 v2)) (ha : a = (⊥ : EReal)) (hp : p.Fine)
  (hX : ∀ k d l, IsReal (X (ix3 k d l)))

include hP ha hp hX in
/-- The carried value before trip `k` holds every column's state after `k` time steps. -/
theorem loop_at (l : Fin 1024) (k : ℕ) (hk : k ≤ 200) :
    hcol (st_k0_t1 (F := Ideal) 𝒱 c bd i arg1 harg1 arg2 harg2 arg3 harg3 arg4 harg4 arg5 harg5 arg6 harg6 arg7 harg7 arg8 harg8
        v0 v2 rows a (harg1.unread X) k0_pay19 k) l = p.state (xat X l) k := by
  have hx : ∀ k d, IsReal (xat X l k d) := by
    intro k d
    unfold xat
    split
    · exact hX _ _ _
    · exact IsReal.zero
  induction k with
  | zero =>
    funext j
    rw [st_k0_t1_zero]
    show k0_pay19 (F := Ideal) _ = 0
    pointwise [k0_pay19]
  | succ k ih =>
    have ih := ih (by omega)
    have hk' : k < k0_t1_loop.trips := by rw [trips_eq]; omega
    have s := st_k0_t1_succ (F := Ideal) 𝒱 c bd i arg1 harg1 arg2 harg2 arg3 harg3 arg4 harg4 arg5 harg5 arg6 harg6 arg7 harg7 arg8 harg8
        v0 v2 rows a (harg1.unread X) k0_pay19 ⟨k, hk'⟩
    rw [show ((⟨k, hk'⟩ : Fin k0_t1_loop.trips).val + 1) = k + 1 from rfl] at s
    rw [s, trip_eq]
    funext j
    rw [yield_at _ _ hP ha hp l, xrow_at, ih]
    · rfl
    · intro d; rw [xrow_at]; exact hx _ _
    · intro j; rw [ih]; exact p.state_real hp hx k j
end

variable (m : (ℓ : Loc nD τ sig) → Buf (Elt Ideal) ℓ) (c : Dev nD) (t : Fin cfg0.N)

/-- What a grid point writes, as the payloads over its blocks. -/
theorem out_eq : ∃ st : FVec Ideal S8x1024 .f32,
    outsAt0 m c t = k0_pay1 (k0_pay21 st (iblk m c 3 t) (iblk m c 4 t) (iblk m c 5 t)) (k0_pay22 (iblk m c 6 t)) ∧
    ∀ (p : Par), Packed p (k0_pay17 (iblk m c 1 t)) (k0_pay18 (iblk m c 2 t)) → p.Fine → (∀ k d l, IsReal ((iblk m c 0 t) (ix3 k d l))) →
      ∀ l, hcol st l = p.state (xat (iblk m c 0 t) l) 200 := by
  unfold outsAt0 out0_A_7
  rw [View.read_writes_eq_canon _ _ _ (fun _ => cover0_A_7 ..)]
  unfold kernelRun0_A
  dsimp only
  sl_unfold_words
  simp only [View.readAt_eq_ld, (hs0_1 t).read_unread, (hs0_2 t).read_unread, (hs0_3 t).read_unread, (hs0_4 t).read_unread, (hs0_5 t).read_unread, (hs0_6 t).read_unread]
  simp (disch := decide) only [View.ld_unit_lit, View.canon_cons_unit_lit]
  refine ⟨_, rfl, fun p hP hp hX l => ?_⟩
  exact loop_at (X := iblk m c 0 t) _ _ _ _ _ _ _ _ _ _ _ _ _ _ _ _ _ _ _ _ hP ofBits_bot hp hX l 200 le_rfl

/-- The padded head weights: the first four columns the weights, the rest zero. -/
structure Padded (w1 : Fin 4 → Fin 32 → EReal) (b1 : Fin 32 → EReal) (w2 : Fin 32 → Fin 10 → EReal) (b2 : Fin 10 → EReal)
    (A : FVec Ideal S32x8 .f32) (B : FVec Ideal S32x1 .f32) (C : FVec Ideal S16x32 .f32) (D : FVec Ideal S16x1 .f32) : Prop where
  w1 : ∀ (u : Fin 32) (d : Fin 4), A (ix2 u (⟨d.val, by omega⟩ : Fin 8)) = w1 d u
  w1z : ∀ (u : Fin 32) (d : Fin 4), A (ix2 u (⟨4 + d.val, by omega⟩ : Fin 8)) = 0
  b1 : ∀ u : Fin 32, B (ix2 u (0 : Fin 1)) = b1 u
  w2 : ∀ (u : Fin 32) (o : Fin 10), C (ix2 (⟨o.val, by omega⟩ : Fin 16) u) = w2 u o
  b2 : ∀ o : Fin 10, D (ix2 (⟨o.val, by omega⟩ : Fin 16) (0 : Fin 1)) = b2 o

/-- The head's payloads read at an output and a column. -/
theorem head_at {w1 : Fin 4 → Fin 32 → EReal} {b1 : Fin 32 → EReal} {w2 : Fin 32 → Fin 10 → EReal} {b2 : Fin 10 → EReal}
    {A : FVec Ideal S32x8 .f32} {B : FVec Ideal S32x1 .f32} {C : FVec Ideal S16x32 .f32} {D : FVec Ideal S16x1 .f32}
    (hA : Padded w1 b1 w2 b2 A B C D) (st : FVec Ideal S8x1024 .f32) (o : Fin 10) (l : Fin 1024) :
    k0_pay1 (k0_pay21 st A B C) (k0_pay22 D) (ix2 (⟨o.val, by omega⟩ : Fin 16) l) = head w1 b1 w2 b2 (hcol st l) o := by
  have hs : ∀ u : Fin 32, ∑ x : Fin 8, A (ix2 u x) * st (ix2 x l) = ∑ d, hcol st l d * w1 d u := by
    intro u
    rw [show ∑ x : Fin 8, A (ix2 u x) * st (ix2 x l)
        = (∑ d : Fin 4, A (ix2 u (⟨d.val, by omega⟩ : Fin 8)) * st (ix2 (⟨d.val, by omega⟩ : Fin 8) l))
          + ∑ d : Fin 4, A (ix2 u (⟨4 + d.val, by omega⟩ : Fin 8)) * st (ix2 (⟨4 + d.val, by omega⟩ : Fin 8) l)
      from Fin.sum_univ_add (a := 4) (b := 4) fun x : Fin 8 => A (ix2 u x) * st (ix2 x l)]
    simp only [hA.w1, hA.w1z, zero_mul, Finset.sum_const_zero, add_zero]
    exact Finset.sum_congr rfl fun d _ => mul_comm _ _
  pointwise [k0_pay1, k0_pay21, k0_pay22]
  simp only [hs, hA.b1, hA.b2, hA.w2]
  unfold head gelu Ideal.logistic
  simp only [mul_comm (w2 _ o)]

end Cert.KernelIdeal.Block
-- ==== Proof.Blocks.lean ====
module

public import proofs.«01_k».proof.Proof.Operands
public import proofs.«01_k».proof.Proof.Block
public import Idealize.ShloMosaic.Lib.Pipeline.ValueKit

/-! The kernel's blocks at every grid point, as the arguments' entries. -/

@[expose] public section

set_option maxRecDepth 16384

noncomputable section

open Idealize.ShloMosaic Idealize.ShloMosaic.TcCoe Idealize.SL.Sem
namespace Cert.KernelIdeal.Blocks
open Cert.KernelIdeal Cert.KernelIdeal.Gen Cert.Cell Cert.KernelIdeal.Trip Cert.KernelIdeal.Block Cert.KernelIdeal.Operands

/-- The parameters the argument arrays hold. -/
def par (w : FVec Ideal S4x64 .f32) (wi wh : FVec Ideal S64x4x4 .f32) (b lt : FVec Ideal S64x4 .f32) : Par where
  wR d e := w (ix2 d e)
  wI e d j := wi (ix3 e d j)
  wH e d j := wh (ix3 e d j)
  bE e j := b (ix2 e j)
  lt e j := lt (ix2 e j)

/-- Row `8 d + j` of a packed table is the weight of input `d` and unit `j`. -/
theorem packed_at (w : FVec Ideal S64x4x4 .f32) (e : Fin 64) (d j : Fin 4) :
    packed w (ix2 (⟨8 * d.val + j.val, by omega⟩ : Fin 32) e) = w (ix3 e d j) := by
  have h8 : (8 * d.val + j.val) % 8 = j.val := by omega
  pointwise [packed]
  simp only [h8]
  rw [dif_pos j.isLt]

/-- A padded table's first four rows are the table's. -/
theorem padded_at (w : FVec Ideal S4x64 .f32) (e : Fin 64) (j : Fin 4) :
    padded w (ix2 (⟨j.val, by omega⟩ : Fin 8) e) = w (ix2 j e) := by
  pointwise [padded]

/-- The step size over a time constant. -/
theorem rates_at (w : FVec Ideal S64x4 .f32) (e : Fin 64) (j : Fin 4) :
    rates w (ix2 j e) = dt * Ideal.exp (-w (ix2 e j)) := by
  pointwise [rates, dt]

variable (m : (ℓ : Loc nD τ sig) → Buf (Elt Ideal) ℓ) (c : Dev nD) (t : Fin cfg0.N)

/-- The blocks of each point: the input and the result by the point, the rest whole. -/
theorem idx : ∀ t : Fin cfg0.N, win0_0.index t = ![0, 0, t.val] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, t.val] :=
  (by decide +kernel : ∀ t : Fin grid0.N, _)

/-- The times, units and columns of point `t`'s block of the input. -/
theorem blk0 (k : Fin 200) (d : Fin 4) (l : Fin 1024) (b : Fin 16384) (hb : b.val = t.val * 1024 + l.val) :
    (iblk m c 0 t : FVec Ideal S200x4x1024 .f32) (ix3 k d l) = at_ m c main_arg0 (ix3 b k d) := by
  have e : (iblk m c 0 t : FVec Ideal S200x4x1024 .f32) (ix3 k d l) = V m c main_v0 (ix3 k d b) := by
    blk_ext [iblk, idx t]
  rw [e, V_x]
  pointwise

/-- Every point's other input blocks are the whole of their arrays. -/
structure Whole : Prop where
  router : (iblk m c 1 t : FVec Ideal S64x4 .f32) = V m c main_v16
  experts : (iblk m c 2 t : FVec Ideal S80x64 .f32) = V m c main_v15
  w1 : (iblk m c 3 t : FVec Ideal S32x8 .f32) = V m c main_v18
  b1 : (iblk m c 4 t : FVec Ideal S32x1 .f32) = V m c main_v19
  w2 : (iblk m c 5 t : FVec Ideal S16x32 .f32) = V m c main_v21
  b2 : (iblk m c 6 t : FVec Ideal S16x1 .f32) = V m c main_v23

set_option maxHeartbeats 2000000 in
/-- They are. -/
theorem whole : Whole m c t := by
  constructor <;>
  · funext x
    blk_ext [iblk, idx t]

/-- The kernel's cast of the parameter block is the block. -/
theorem pay18 (v : FVec Ideal S80x64 .f32) : k0_pay18 v = v := by
  funext i
  idx_vars i
  pointwise [k0_pay18]

/-- The packed parameters of a memory. -/
abbrev parOf : Par := par (at_ m c main_arg1) (at_ m c main_arg2) (at_ m c main_arg3) (at_ m c main_arg4) (at_ m c main_arg5)

/-- Four row tables, stacked. -/
abbrev cat (A B : FVec Ideal S32x64 .f32) (C D : FVec Ideal S8x64 .f32) : FVec Ideal S80x64 .f32 :=
  concatenate S80x64 0 [⟨S32x64, A⟩, ⟨S32x64, B⟩, ⟨S8x64, C⟩, ⟨S8x64, D⟩] concatenates_S32x64_S32x64_S8x64_S8x64_S80x64_d0

section
variable (A B : FVec Ideal S32x64 .f32) (C D : FVec Ideal S8x64 .f32) (e : Fin 64)

/-- A row of the first table. -/
theorem cat1 (r : Fin 32) : cat A B C D (ix2 (⟨r.val, by omega⟩ : Fin 80) e) = A (ix2 r e) := by
  pointwise [cat]

/-- A row of the second table. -/
theorem cat2 (r : Fin 32) : cat A B C D (ix2 (⟨32 + r.val, by omega⟩ : Fin 80) e) = B (ix2 r e) := by
  pointwise [cat]

/-- A row of the third table. -/
theorem cat3 (r : Fin 8) : cat A B C D (ix2 (⟨64 + r.val, by omega⟩ : Fin 80) e) = C (ix2 r e) := by
  pointwise [cat]
  rw [dif_neg (by omega), dif_neg (by omega), dif_pos (by omega)]
  exact congrArg (fun q => C (ix2 q e)) (Fin.ext (by dsimp only; omega))

/-- A row of the fourth table. -/
theorem cat4 (r : Fin 8) : cat A B C D (ix2 (⟨72 + r.val, by omega⟩ : Fin 80) e) = D (ix2 r e) := by
  pointwise [cat]
  rw [dif_neg (by omega), dif_neg (by omega), dif_neg (by omega)]
  exact congrArg (fun q => D (ix2 q e)) (Fin.ext (by dsimp only; omega))
end

/-- Every point's parameter blocks hold the arguments' parameters. -/
theorem holds_par : Packed (parOf m c) (k0_pay17 (iblk m c 1 t)) (k0_pay18 (iblk m c 2 t)) where
  wR e d := by
    rw [(whole m c t).router, V_router]
    pointwise [k0_pay17]
    rfl
  wI e d j := by
    rw [(whole m c t).experts, V_experts, pay18]
    exact (cat1 _ _ _ _ e ⟨8 * d.val + j.val, by omega⟩).trans (packed_at _ e d j)
  wH e d j := by
    rw [(whole m c t).experts, V_experts, pay18]
    exact (cat2 _ _ _ _ e ⟨8 * d.val + j.val, by omega⟩).trans (packed_at _ e d j)
  bE e j := by
    rw [(whole m c t).experts, V_experts, pay18]
    refine (cat3 _ _ _ _ e ⟨j.val, by omega⟩).trans ((padded_at _ e j).trans ?_)
    pointwise
    rfl
  dE e j := by
    rw [(whole m c t).experts, V_experts, pay18]
    exact (cat4 _ _ _ _ e ⟨j.val, by omega⟩).trans ((padded_at _ e j).trans (rates_at _ e j))

/-- The weights of the first layer of the head that a memory holds. -/
abbrev w1Of (d : Fin 4) (u : Fin 32) : EReal := at_ m c main_arg6 (ix2 d u)
/-- Its biases. -/
abbrev b1Of (u : Fin 32) : EReal := at_ m c main_arg7 (ix1 u)
/-- The weights of the second layer. -/
abbrev w2Of (u : Fin 32) (o : Fin 10) : EReal := at_ m c main_arg8 (ix2 u o)
/-- Its biases. -/
abbrev b2Of (o : Fin 10) : EReal := at_ m c main_arg9 (ix1 o)

/-- The padded bias column's first ten rows are the biases. -/
theorem bias_at (w : FVec Ideal S10 .f32) (o : Fin 10) :
    shapeCast S16x1 (pad S16 ![0] ![6] ![0] w zero pads_S10_S16_060 h_S_) shapeCasts_S16_S16x1 (ix2 (⟨o.val, by omega⟩ : Fin 16) (0 : Fin 1))
      = w (ix1 o) := by
  pointwise

/-- Every point's head blocks hold the arguments' weights and biases. -/
theorem holds_head : Padded (w1Of m c) (b1Of m c) (w2Of m c) (b2Of m c) (iblk m c 3 t) (iblk m c 4 t) (iblk m c 5 t) (iblk m c 6 t) where
  w1 u d := by
    rw [(whole m c t).w1, V_w1]
    pointwise
  w1z u d := by
    rw [(whole m c t).w1, V_w1]
    pointwise
    show (((0#32 : BitVec 32).toInt : ℝ) : EReal) = 0
    simp
  b1 u := by
    rw [(whole m c t).b1, V_b1]
    pointwise
  w2 u o := by
    rw [(whole m c t).w2, V_w2]
    pointwise
  b2 o := by
    rw [(whole m c t).b2, V_b2]
    exact bias_at _ o

/-- A batch row's input at each time. -/
abbrev xsOf (b : Fin 16384) (k : ℕ) (d : Fin 4) : EReal :=
  if h : k < 200 then at_ m c main_arg0 (ix3 b (⟨k, h⟩ : Fin 200) d) else 0

/-- What the network gives for a batch row. -/
abbrev resultOf (b : Fin 16384) (o : Fin 10) : EReal :=
  head (w1Of m c) (b1Of m c) (w2Of m c) (b2Of m c) ((parOf m c).state (xsOf m c b) 200) o

/-- What point `t` writes at an output and a column is the network's result of that column's batch row. -/
theorem out_at (hp : (parOf m c).Fine) (hx : ∀ i, IsReal (at_ m c main_arg0 i)) (o : Fin 10) (l : Fin 1024) (b : Fin 16384)
    (hb : b.val = t.val * 1024 + l.val) :
    outsAt0 m c t (ix2 (⟨o.val, by omega⟩ : Fin 16) l) = resultOf m c b o := by
  obtain ⟨st, e, hst⟩ := out_eq m c t
  rw [e, head_at (holds_head m c t)]
  have hX : ∀ k d l', IsReal ((iblk m c 0 t : FVec Ideal S200x4x1024 .f32) (ix3 k d l')) := by
    intro k d l'
    have ht : t.val < 16 := t.isLt
    rw [blk0 m c t k d l' ⟨t.val * 1024 + l'.val, by omega⟩ rfl]
    exact hx _
  have h1 : hcol st l = (parOf m c).state (xat (iblk m c 0 t) l) 200 := hst _ (holds_par m c t) hp hX l
  rw [h1]
  have h2 : xat (iblk m c 0 t) l = xsOf m c b := by
    funext k d
    unfold xat xsOf
    split
    · exact blk0 m c t _ d l b hb
    · rfl
  rw [h2]

/-- The kernel's result array holds the network's results. -/
theorem array_at (hp : (parOf m c).Fine) (hx : ∀ i, IsReal (at_ m c main_arg0 i)) (o : Fin 10) (b : Fin 16384) :
    (dats m 0 c).arrAt 7 (cfgs 0).N (ix2 (⟨o.val, by omega⟩ : Fin 16) b) = resultOf m c b o := by
  have h := (dats m 0 c).arrAt_forall_of_covers 7
    (fun (i : S16x16384.Idx) (v : EReal) => ∀ (o : Fin 10) (b : Fin 16384), i = ix2 (⟨o.val, by omega⟩ : Fin 16) b → v = resultOf m c b o)
    (by decide +kernel) (fun t hf y => ?_) (ix2 (⟨o.val, by omega⟩ : Fin 16) b)
  · exact h o b rfl
  · blk_simp
    rw [after0_7]
    intro o b hy
    have ht : t.val < 16 := t.isLt
    have hl : (y 1).val < 1024 := (y 1).isLt
    have e : (win0_7.blk t).view.emb y = ix2 (y 0 : Fin 16) (⟨t.val * 1024 + (y 1).val, by omega⟩ : Fin 16384) := by
      blk_ext [idx t]
    rw [e] at hy
    have h0 : (y 0).val = o.val := congrArg Fin.val (congrFun hy (0 : Fin 2))
    have h1 : t.val * 1024 + (y 1).val = b.val := congrArg Fin.val (congrFun hy (1 : Fin 2))
    have ey : y = ix2 (⟨o.val, by omega⟩ : Fin 16) (⟨(y 1).val, hl⟩ : Fin 1024) := by
      funext a
      match a with
      | ⟨0, _⟩ => exact Fin.ext h0
      | ⟨1, _⟩ => rfl
    rw [ey]
    exact out_at m c t hp hx o _ b h1.symm

/-- The host's tail: the first ten rows, transposed, in pairs. -/
theorem tail_at (A : FVec Ideal S16x16384 .f32) (b : Fin 16384) (i : Fin 5) (k : Fin 2) :
    shapeCast S16384x5x2 (transpose S16384x10 [1, 0] (extractStridedSlice S10x16384 ![0, 0] A slices_S16x16384_S10x16384_0_0)
      transposes_S10x16384_S16384x10_1_0) shapeCasts_S16384x10_S16384x5x2 (ix3 b i k)
      = A (ix2 (⟨i.val * 2 + k.val, by omega⟩ : Fin 16) b) := by
  pointwise

end Cert.KernelIdeal.Blocks
-- ==== Proof.KerRun.lean ====
module

public import proofs.«01_k».proof.Proof.Blocks
public import Idealize.ShloMosaic.Lib.Claim

/-! The kernel's run: its result is the network's, its arguments unchanged. -/

@[expose] public section

set_option maxRecDepth 16384

noncomputable section

open Idealize.ShloMosaic Idealize.ShloMosaic.TcCoe Idealize.SL.Sem
namespace Cert.KernelIdeal.KerRun
open Cert.KernelIdeal Cert.KernelIdeal.Gen Cert.Cell Cert.KernelIdeal.Blocks Cert.KernelIdeal.Operands

variable (m : (ℓ : Loc nD τ sig) → Buf (Elt Ideal) ℓ) (ρ : Dev nD → PrngReg)

/-- The network's results as the returned array. -/
def G (c : Dev nD) : FVec Ideal S16384x5x2 .f32 := fun i =>
  resultOf m c (i 0) ⟨(i 1).val * 2 + (i 2).val, by have h1 : (i 1).val < 5 := (i 1).isLt; have h2 : (i 2).val < 2 := (i 2).isLt; omega⟩

/-- The result array, as the host's last operations leave it. -/
theorem tail_eq (c : Dev nD) (hp : (parOf m c).Fine) (hx : ∀ i, IsReal (at_ m c main_arg0 i)) :
    Pipeline.afterTail₀ cfgs (dats m) 0 (V0 m) [hostOps1] c main_v27 = G m c := by
  have h24 : Pipeline.withArrays (cfgs 0).spec c (V0 m c) (fun w => (dats m 0 c).arrAt w (cfgs 0).N) (Proc.devRef .tc main_v24)
      = (dats m 0 c).arrAt 7 (cfgs 0).N :=
    Pipeline.withArrays_arr (cfgs 0).spec (by decide +kernel) c (V0 m c) _ 7
  have e : Pipeline.afterTail₀ cfgs (dats m) 0 (V0 m) [hostOps1] c main_v27
      = shapeCast S16384x5x2 (transpose S16384x10 [1, 0] (extractStridedSlice S10x16384 ![0, 0]
          ((dats m 0 c).arrAt 7 (cfgs 0).N) slices_S16x16384_S10x16384_0_0)
          transposes_S10x16384_S16384x10_1_0) shapeCasts_S16384x10_S16384x5x2 := by
    unfold Pipeline.afterTail₀
    simp only [List.flatten_cons, List.flatten_nil, List.append_nil]
    after_results
    rw [h24]
    rfl
  rw [e]
  funext i
  idx_vars i
  exact (tail_at _ _ _ _).trans (array_at m c hp hx ⟨_, _⟩ _)

/-- The kernel's run ends with the network's results in the returned array. -/
theorem result (hp : ∀ c, (parOf m c).Fine) (hx : ∀ c i, IsReal (at_ m c main_arg0 i)) :
    θ_run defs (onTc (τ := τ) (main (F := Ideal))) ⟨m, fun _ => 0, ρ⟩ fun r => ∀ c : Dev nD,
      r.2.mem ((c.tc : Thread nD τ).loc main_v27) = G m c := by
  run_from Gen.run_main m ρ
  exact tail_eq m c (hp c) (hx c)

/-- The kernel's run ends with the network's results in the returned array and every argument as it began. -/
theorem run (hp : ∀ c, (parOf m c).Fine) (hx : ∀ c i, IsReal (at_ m c main_arg0 i)) :
    θ_run defs (onTc (τ := τ) (main (F := Ideal))) ⟨m, fun _ => 0, ρ⟩ fun r => ∀ c : Dev nD,
      r.2.mem ((c.tc : Thread nD τ).loc main_v27) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨?_, h.1 c⟩) (θ_run_and (Gen.unchanged m ρ) (result m ρ hp hx))
  exact h.2 c

end Cert.KernelIdeal.KerRun
-- ==== Proof.TopTwo.lean ====
module

public import proofs.«01_k».proof.Proof.Cell

/-! A stable descending sort puts the first greatest entry first and the next one second. -/

@[expose] public section

noncomputable section

namespace Cert.Cell

open Idealize.ShloMosaic

section
variable {n : ℕ} (L : Fin n → EReal)

/-- `a` comes before `b`: its entry is greater, or equal at a smaller position. -/
def Bef (a b : Fin n) : Prop := L b < L a ∨ (L a = L b ∧ a < b)

/-- The order is transitive. -/
theorem Bef.trans {a b c : Fin n} (h : Bef L a b) (h' : Bef L b c) : Bef L a c := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

variable (B : Fin n → Fin n → Bool) (hB : ∀ a b, B a b = true ↔ L b < L a)
include hB

/-- Inserting an element smaller in position than every member of an ordered list keeps it ordered. -/
theorem insert_ordered (a : Fin n) (l : List (Fin n)) (hl : l.Pairwise (Bef L)) (ha : ∀ b ∈ l, a < b) :
    (insertBefore B a l).Pairwise (Bef L) := by
  induction l with
  | nil => exact List.pairwise_singleton _ _
  | cons b l ih =>
    rw [List.pairwise_cons] at hl
    unfold insertBefore
    split
    · rename_i hb
      rw [List.pairwise_cons]
      refine ⟨fun c hc => ?_, ih hl.2 fun c hc => ha c (List.mem_cons_of_mem _ hc)⟩
      rcases List.mem_cons.mp ((perm_insertBefore B a l).mem_iff.mp hc) with rfl | hc
      · exact Or.inl ((hB _ _).mp hb)
      · exact hl.1 c hc
    · rename_i hb
      have hab : Bef L a b := by
        have h : ¬ L a < L b := fun h => hb ((hB _ _).mpr h)
        rcases lt_or_eq_of_le (not_lt.mp h) with h | h
        · exact Or.inl h
        · exact Or.inr ⟨h.symm, ha b (List.mem_cons_self ..)⟩
      rw [List.pairwise_cons, List.pairwise_cons]
      refine ⟨fun c hc => ?_, hl⟩
      rcases List.mem_cons.mp hc with rfl | hc
      · exact hab
      · exact hab.trans L (hl.1 c hc)

/-- The stable sort of a list of increasing positions is ordered. -/
theorem sort_ordered (l : List (Fin n)) (hl : l.Pairwise (· < ·)) : (stableSort B l).Pairwise (Bef L) := by
  induction l with
  | nil => exact List.Pairwise.nil
  | cons a l ih =>
    rw [List.pairwise_cons] at hl
    unfold stableSort
    exact insert_ordered L B hB a _ (ih hl.2) fun b hb => hl.1 b ((perm_stableSort B l).mem_iff.mp hb)

/-- Sorted positions follow the order. -/
theorem sorted_bef (i j : Fin n) (hij : i < j) : Bef L (sortedFrom B i) (sortedFrom B j) := by
  have h : ∀ a b : Fin (sortPositions n B).length, a < b → Bef L ((sortPositions n B).get a) ((sortPositions n B).get b) := List.pairwise_iff_get.mp (sort_ordered L B hB (List.finRange n) (List.pairwise_lt_finRange n))
  exact h (i.cast (length_sortPositions n B).symm) (j.cast (length_sortPositions n B).symm) hij

end

variable (L : Fin 64 → EReal) (B : Fin 64 → Fin 64 → Bool) (hB : ∀ a b, B a b = true ↔ L b < L a)
include hB

/-- The sort's first position is the first choice. -/
theorem sorted_zero : sortedFrom B 0 = top L := by
  refine First.unique (fun e => ?_) (top_first L)
  obtain ⟨k, rfl⟩ := sortedFrom_surjective B e
  rcases eq_or_ne k 0 with rfl | hk
  · exact ⟨le_rfl, fun _ => le_rfl⟩
  · rcases sorted_bef L B hB 0 k (Fin.pos_iff_ne_zero.mpr hk) with h | ⟨h, h'⟩
    · exact ⟨h.le, fun e => absurd e h.ne⟩
    · exact ⟨h.ge, fun _ => h'.le⟩

/-- The sort's second position is the second choice. -/
theorem sorted_one (hL : ∀ e, ⊥ < L e) : sortedFrom B 1 = snd L := by
  have h0 := sorted_zero L B hB
  have h1 : sortedFrom B 1 ≠ top L := by
    rw [← h0]
    exact fun h => absurd (sortedFrom_injective B h) (by decide)
  have m1 : mask L (sortedFrom B 1) = L (sortedFrom B 1) := if_neg h1
  refine First.unique (fun e => ?_) (top_first (mask L))
  rw [m1]
  obtain ⟨k, rfl⟩ := sortedFrom_surjective B e
  rcases eq_or_ne k 0 with rfl | hk
  · have e0 : mask L (sortedFrom B 0) = ⊥ := if_pos h0
    rw [e0]
    exact ⟨bot_le, fun e => absurd e (hL _).ne⟩
  · have hk' : sortedFrom B k ≠ top L := by
      rw [← h0]
      exact fun h => hk (sortedFrom_injective B h)
    have mk : mask L (sortedFrom B k) = L (sortedFrom B k) := if_neg hk'
    rw [mk]
    rcases eq_or_ne k 1 with rfl | hk1
    · exact ⟨le_rfl, fun _ => le_rfl⟩
    · have hlt : (1 : Fin 64) < k := by
        have a : k.val ≠ 0 := fun h => hk (Fin.ext h)
        have b : k.val ≠ 1 := fun h => hk1 (Fin.ext h)
        exact Fin.lt_def.mpr (by show 1 < k.val; omega)
      rcases sorted_bef L B hB 1 k hlt with h | ⟨h, h'⟩
      · exact ⟨h.le, fun e => absurd e h.ne⟩
      · exact ⟨h.ge, fun _ => h'.le⟩

end Cert.Cell
-- ==== Proof.RefStep.lean ====
module

public import proofs.«01_k».proof.Proof.TopTwo
public import proofs.«01_k».proof.Proof.Gen.ReferenceIdeal.Run
public import Idealize.ShloMosaic.Lib.StableHlo.Predicate

/-! One time step of the reference, read at one batch row. -/

@[expose] public section

set_option maxRecDepth 16384

noncomputable section

open Idealize.ShloMosaic Idealize.ShloMosaic.TcCoe Idealize.SL.Sem
namespace Cert.ReferenceIdeal.Trip
open Cert.ReferenceIdeal Cert.ReferenceIdeal.Gen Cert.Cell

/-- The gather of four by four tables. -/
abbrev g3 := gather_S64x4x4_S16384x2x1_S16384x2x4x4_23_0_n_n_0_2_144

/-- The gather of rows of four. -/
abbrev g2 := gather_S64x4_S16384x2x1_S16384x2x4_2_0_n_n_0_2_14

/-- Tables of four by four weights, chosen by index. -/
theorem gather3_at (x : FVec Ideal S64x4x4 .f32) (idx : IVec S16384x2x1 32) (b : Fin 16384) (k : Fin 2) (d j : Fin 4) (e : Fin 64)
    (he : idx (ix3 b k (0 : Fin 1)) = BitVec.ofNat 32 e.val) :
    Host.gather g3 x idx (ix4 b k d j) = x (ix3 e d j) := by
  unfold Host.gather
  refine congrArg x (funext fun a => Fin.ext ?_)
  have hb : ∀ a, g3.batchCoord (ix4 b k d j) a = 0 := fun a =>
    GatherDims.batchCoord_eq_zero _ _ _ List.not_mem_nil
  match a with
  | ⟨0, _⟩ =>
    show g3.start (ix4 b k d j) idx 0 + g3.batchCoord (ix4 b k d j) 0 + g3.offCoord (ix4 b k d j) 0 = e.val
    rw [hb, GatherDims.offCoord_eq_zero _ _ _ (by decide)]
    unfold GatherDims.start
    rw [dif_pos (by decide)]
    have hsi : ∀ c, g3.siIdx (ix4 b k d j) c = ix3 b k (0 : Fin 1) := fun c => by
      funext a'
      match a' with
      | ⟨0, _⟩ =>
        apply Fin.ext
        unfold GatherDims.siIdx GatherDims.siCoord
        rw [dif_neg (by show ¬ (0 : ℕ) = 2; decide)]
        exact congrArg (fun q => (ix4 b k d j q).val) (by decide : g3.batchDims[List.idxOf (0 : Fin 3) g3.siKept]'(by decide) = 0)
      | ⟨1, _⟩ =>
        apply Fin.ext
        unfold GatherDims.siIdx GatherDims.siCoord
        rw [dif_neg (by show ¬ (1 : ℕ) = 2; decide)]
        exact congrArg (fun q => (ix4 b k d j q).val) (by decide : g3.batchDims[List.idxOf (1 : Fin 3) g3.siKept]'(by decide) = 1)
      | ⟨2, _⟩ => exact Subsingleton.elim (α := Fin 1) _ _
    rw [hsi, he, StableHlo.Predicate.toInt_ofNat_small _ (by omega)]
    show min (e.val : ℤ).toNat 63 + 0 + 0 = e.val
    omega
  | ⟨1, _⟩ =>
    show g3.start (ix4 b k d j) idx 1 + g3.batchCoord (ix4 b k d j) 1 + g3.offCoord (ix4 b k d j) 1 = d.val
    rw [hb]
    unfold GatherDims.start GatherDims.offCoord
    rw [dif_neg (by decide), dif_pos (by decide), Nat.zero_add]
    exact congrArg (fun q => (ix4 b k d j q).val) (by decide : g3.offsetDims[List.idxOf (1 : Fin 3) g3.sKept]'(by decide) = 2)
  | ⟨2, _⟩ =>
    show g3.start (ix4 b k d j) idx 2 + g3.batchCoord (ix4 b k d j) 2 + g3.offCoord (ix4 b k d j) 2 = j.val
    rw [hb]
    unfold GatherDims.start GatherDims.offCoord
    rw [dif_neg (by decide), dif_pos (by decide), Nat.zero_add]
    exact congrArg (fun q => (ix4 b k d j q).val) (by decide : g3.offsetDims[List.idxOf (2 : Fin 3) g3.sKept]'(by decide) = 3)

/-- Rows of a table of four entries, chosen by index. -/
theorem gather2_at (x : FVec Ideal S64x4 .f32) (idx : IVec S16384x2x1 32) (b : Fin 16384) (k : Fin 2) (j : Fin 4) (e : Fin 64)
    (he : idx (ix3 b k (0 : Fin 1)) = BitVec.ofNat 32 e.val) :
    Host.gather g2 x idx (ix3 b k j) = x (ix2 e j) := by
  unfold Host.gather
  refine congrArg x (funext fun a => Fin.ext ?_)
  have hb : ∀ a, g2.batchCoord (ix3 b k j) a = 0 := fun a =>
    GatherDims.batchCoord_eq_zero _ _ _ List.not_mem_nil
  match a with
  | ⟨0, _⟩ =>
    show g2.start (ix3 b k j) idx 0 + g2.batchCoord (ix3 b k j) 0 + g2.offCoord (ix3 b k j) 0 = e.val
    rw [hb, GatherDims.offCoord_eq_zero _ _ _ (by decide)]
    unfold GatherDims.start
    rw [dif_pos (by decide)]
    have hsi : ∀ c, g2.siIdx (ix3 b k j) c = ix3 b k (0 : Fin 1) := fun c => by
      funext a'
      match a' with
      | ⟨0, _⟩ =>
        apply Fin.ext
        unfold GatherDims.siIdx GatherDims.siCoord
        rw [dif_neg (by show ¬ (0 : ℕ) = 2; decide)]
        exact congrArg (fun q => (ix3 b k j q).val) (by decide : g2.batchDims[List.idxOf (0 : Fin 3) g2.siKept]'(by decide) = 0)
      | ⟨1, _⟩ =>
        apply Fin.ext
        unfold GatherDims.siIdx GatherDims.siCoord
        rw [dif_neg (by show ¬ (1 : ℕ) = 2; decide)]
        exact congrArg (fun q => (ix3 b k j q).val) (by decide : g2.batchDims[List.idxOf (1 : Fin 3) g2.siKept]'(by decide) = 1)
      | ⟨2, _⟩ => exact Subsingleton.elim (α := Fin 1) _ _
    rw [hsi, he, StableHlo.Predicate.toInt_ofNat_small _ (by omega)]
    show min (e.val : ℤ).toNat 63 + 0 + 0 = e.val
    omega
  | ⟨1, _⟩ =>
    show g2.start (ix3 b k j) idx 1 + g2.batchCoord (ix3 b k j) 1 + g2.offCoord (ix3 b k j) 1 = j.val
    rw [hb]
    unfold GatherDims.start GatherDims.offCoord
    rw [dif_neg (by decide), dif_pos (by decide), Nat.zero_add]
    exact congrArg (fun q => (ix3 b k j q).val) (by decide : g2.offsetDims[List.idxOf (1 : Fin 2) g2.sKept]'(by decide) = 2)

/-- Moving along a row changes the column. -/
theorem along_eq (b : Fin 16384) (a e : Fin 64) : (ix2 b a : S16384x64.Idx).along 1 e = ix2 b e := by
  funext i
  match i with
  | ⟨0, _⟩ => rfl
  | ⟨1, _⟩ => rfl

/-- The descending order on a row's columns. -/
def before (x : FVec Ideal S16384x64 .f32) (b : Fin 16384) (e e' : Fin 64) : Bool :=
  FloatOps.cmpfTotal (F := Ideal) CmpDirection.gt (x (ix2 b e)) (x (ix2 b e')) == 1#1

/-- One column is before another when its entry is larger. -/
theorem before_iff (x : FVec Ideal S16384x64 .f32) (b : Fin 16384) (e e' : Fin 64) :
    before x b e e' = true ↔ x (ix2 b e') < x (ix2 b e) := by
  show (BitVec.ofBool (decide (x (ix2 b e') < x (ix2 b e))) == 1#1) = true ↔ _
  by_cases h : x (ix2 b e') < x (ix2 b e) <;> simp [h]

/-- The chosen columns are the sort's first ones. -/
theorem index_at (x : FVec Ideal S16384x64 .f32) (b : Fin 16384) (k : Fin 2) :
    (Host.topK S16384x2 1 (FloatOps.cmpfTotal .gt) x sliceFits_S16384x64_S16384x2).2 (ix2 b k)
      = BitVec.ofNat 32 (sortedFrom (before x b) ⟨k.val, by omega⟩).val := by
  pointwise [Host.topK, Host.sort2]
  simp only [along_eq]
  rfl

/-- The chosen values are those columns' entries. -/
theorem value_at (x : FVec Ideal S16384x64 .f32) (b : Fin 16384) (k : Fin 2) :
    (Host.topK S16384x2 1 (FloatOps.cmpfTotal .gt) x sliceFits_S16384x64_S16384x2).1 (ix2 b k)
      = x (ix2 b (sortedFrom (before x b) ⟨k.val, by omega⟩)) := by
  pointwise [Host.topK, Host.sort2]
  simp only [along_eq]
  rfl

/-- The indices, a negative one counted from the end. -/
def wrap (idx : IVec S16384x2 32) : IVec S16384x2x1 32 :=
  broadcastInDim S16384x2x1 ![0, 1] bcast_S16384x2_S16384x2x1_0_1 (select (cmpi .slt idx (broadcastInDim S16384x2 ![] bcast_S_S16384x2 (constantI S_ 32 0#32))) (addi idx (broadcastInDim S16384x2 ![] bcast_S_S16384x2 (constantI S_ 32 64#32))) idx)

/-- An expert's number is kept. -/
theorem wrap_at (idx : IVec S16384x2 32) (b : Fin 16384) (k : Fin 2) (e : Fin 64) (he : idx (ix2 b k) = BitVec.ofNat 32 e.val) :
    wrap idx (ix3 b k (0 : Fin 1)) = BitVec.ofNat 32 e.val := by
  have h : ∀ e : Fin 64, Scalar.select (IntOp.cmpi CmpIPredicate.slt (BitVec.ofNat 32 e.val) 0#32) (IntOp.addi (BitVec.ofNat 32 e.val) 64#32)
      (BitVec.ofNat 32 e.val) = BitVec.ofNat 32 e.val := by decide +kernel
  pointwise [wrap]
  rw [he]
  exact h e

/-- The softmax's numerators. -/
def numer (v : FVec Ideal S16384x2 .f32) : FVec Ideal S16384x2 .f32 :=
  Host.exp (subf v (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf v (constant S_ .f32 0xFF800000#32) reducesTo_S16384x2_S16384_d1 h_S_)))))

/-- The numerators at a batch row and a rank: the exponential of the difference to the larger of the two. -/
theorem numer_at (v : FVec Ideal S16384x2 .f32) (b : Fin 16384) (k : Fin 2) :
    numer v (ix2 b k) = Ideal.exp (v (ix2 b k) - max (v (ix2 b (0 : Fin 2))) (v (ix2 b (1 : Fin 2)))) := by
  have hb := ofBits_bot
  pointwise [numer]
  have hf : ∀ f : Fin 2 → EReal, Finset.univ.fold max ⊥ f = max (f 0) (f 1) := fun f => by
    rw [show (Finset.univ : Finset (Fin 2)) = insert 0 {1} from rfl, Finset.fold_insert (by decide), Finset.fold_singleton]
    simp
  refine congrArg (fun q => Ideal.exp (v (ix2 b k) - q)) ?_
  rw [show Ideal.ofBits FTy.f32 4286578688#32 = ⊥ from hb, hf]
  simp

/-- The softmax of the numerators. -/
def gates (v : FVec Ideal S16384x2 .f32) : FVec Ideal S16384x2 .f32 :=
  Host.divf v (broadcastInDim S16384x2 ![0, 1] bcast_S16384x1_S16384x2_0_1 (broadcastInDim S16384x1 ![0] bcast_S16384_S16384x1_0 (Host.reduceAdd v (constant S_ .f32 0x00000000#32) reducesTo_S16384x2_S16384_d1 h_S_)))

/-- The gates at a batch row and a rank. -/
theorem gates_at (v : FVec Ideal S16384x2 .f32) (b : Fin 16384) (k : Fin 2) :
    gates v (ix2 b k) = Ideal.div (v (ix2 b k)) (v (ix2 b (0 : Fin 2)) + v (ix2 b (1 : Fin 2))) := by
  pointwise [gates]
  rw [Fin.sum_univ_two]

/-- A row's products with its two chosen tables. -/
def proj (x : FVec Ideal S16384x4 .f32) (w : FVec Ideal S16384x2x4x4 .f32) : FVec Ideal S16384x2x4 .f32 :=
  Host.dotGeneral dot_S16384x4_S16384x2x4x4_S16384x2x4_1_2_n_13_0_0 none x w

/-- The products at a batch row, a rank and a unit. -/
theorem proj_at (x : FVec Ideal S16384x4 .f32) (w : FVec Ideal S16384x2x4x4 .f32) (b : Fin 16384) (k : Fin 2) (j : Fin 4) :
    proj x w (ix3 b k j) = ∑ d : Fin 4, x (ix2 b d) * w (ix4 b k d j) := by
  pointwise [proj]

/-- The two Euler steps weighted by the gates and added. -/
def mix (g : FVec Ideal S16384x2 .f32) (h : FVec Ideal S16384x4 .f32) (u r : FVec Ideal S16384x2x4 .f32)
    (bb ta : FVec Ideal S16384x2x4 .f32) : FVec Ideal S16384x4 .f32 :=
  Host.reduceAdd (mulf (broadcastInDim S16384x2x4 ![0, 1, 2] bcast_S16384x2x1_S16384x2x4_0_1_2 (broadcastInDim S16384x2x1 ![0, 1] bcast_S16384x2_S16384x2x1_0_1 g))
    (addf (broadcastInDim S16384x2x4 ![0, 1, 2] bcast_S16384x1x4_S16384x2x4_0_1_2 (broadcastInDim S16384x1x4 ![0, 2] bcast_S16384x4_S16384x1x4_0_2 h))
      (Host.divf (mulf (broadcastInDim S16384x2x4 ![] bcast_S_S16384x2x4 (constant S_ .f32 0x3CA3D70A#32))
        (subf (Host.tanh (addf (addf u r) bb)) (broadcastInDim S16384x2x4 ![0, 1, 2] bcast_S16384x1x4_S16384x2x4_0_1_2 (broadcastInDim S16384x1x4 ![0, 2] bcast_S16384x4_S16384x1x4_0_2 h)))) ta)))
    (constant S_ .f32 0x00000000#32) reducesTo_S16384x2x4_S16384x4_d1 h_S_

/-- The mixture at a batch row and a unit. -/
theorem mix_at (g : FVec Ideal S16384x2 .f32) (h : FVec Ideal S16384x4 .f32) (u r bb ta : FVec Ideal S16384x2x4 .f32)
    (b : Fin 16384) (j : Fin 4) :
    mix g h u r bb ta (ix2 b j) = ∑ k : Fin 2, g (ix2 b k) * (h (ix2 b j) + Ideal.div (dt * (Ideal.tanh (u (ix3 b k j) + r (ix3 b k j) + bb (ix3 b k j)) - h (ix2 b j))) (ta (ix3 b k j))) := by
  pointwise [mix, dt]

/-- The time step as a function of the arrays it reads. -/
def stepOf (w : FVec Ideal S4x64 .f32) (wi wh : FVec Ideal S64x4x4 .f32) (bb ta : FVec Ideal S64x4 .f32)
    (x h : FVec Ideal S16384x4 .f32) : FVec Ideal S16384x4 .f32 :=
  let L := Host.dotGeneral (F := Ideal) dot_S16384x4_S4x64_S16384x64_1_0_0_1_n_n none x w
  let tk := Host.topK S16384x2 1 (FloatOps.cmpfTotal .gt) L sliceFits_S16384x64_S16384x2
  mix (gates (numer tk.1)) h
    (proj x (Host.gather gather_S64x4x4_S16384x2x1_S16384x2x4x4_23_0_n_n_0_2_144 wi (wrap tk.2)))
    (proj h (Host.gather gather_S64x4x4_S16384x2x1_S16384x2x4x4_23_0_n_n_0_2_144 wh (wrap tk.2)))
    (Host.gather gather_S64x4_S16384x2x1_S16384x2x4_2_0_n_n_0_2_14 bb (wrap tk.2))
    (Host.gather gather_S64x4_S16384x2x1_S16384x2x4_2_0_n_n_0_2_14 ta (wrap tk.2))

open Cert.ReferenceIdeal.Value in
/-- The loop body's new state is that function of the buffers. -/
theorem step_eq (V : Valuation τ sig (Elt Ideal)) :
    step_main_v3_7 V = stepOf (V (Proc.devRef .tc main_v3_1)) (V (Proc.devRef .tc main_v3_2)) (V (Proc.devRef .tc main_v3_3))
      (V (Proc.devRef .tc main_v3_4)) (V (Proc.devRef .tc main_v3_5)) (res_main_while0b_v32 V) (V (Proc.devRef .tc main_v3_7)) := by
  unfold step_main_v3_7 res_main_while0b_v40 res_main_while0b_values res_main_while0b_indices res_main_while0b_v33 stepOf mix gates numer proj wrap
  rfl

/-- The arrays hold a cell's parameters. -/
structure Holds (p : Par) (w : FVec Ideal S4x64 .f32) (wi wh : FVec Ideal S64x4x4 .f32) (bb ta : FVec Ideal S64x4 .f32) : Prop where
  wR : ∀ d e, w (ix2 d e) = p.wR d e
  wI : ∀ e d j, wi (ix3 e d j) = p.wI e d j
  wH : ∀ e d j, wh (ix3 e d j) = p.wH e d j
  bE : ∀ e j, bb (ix2 e j) = p.bE e j
  ta : ∀ e j, ta (ix2 e j) = Ideal.exp (p.lt e j)

/-- The router's logits, by row. -/
theorem logits_at (x : FVec Ideal S16384x4 .f32) (w : FVec Ideal S4x64 .f32) (b : Fin 16384) (e : Fin 64) :
    Host.dotGeneral (F := Ideal) dot_S16384x4_S4x64_S16384x64_1_0_0_1_n_n none x w (ix2 b e) = ∑ d : Fin 4, x (ix2 b d) * w (ix2 d e) := by
  pointwise

/-- One time step of a row is the cell's. -/
theorem step_at {p : Par} {w : FVec Ideal S4x64 .f32} {wi wh : FVec Ideal S64x4x4 .f32} {bb ta : FVec Ideal S64x4 .f32}
    (hd : Holds p w wi wh bb ta) (hp : p.Fine) (x h : FVec Ideal S16384x4 .f32) (b : Fin 16384) (xr hr : Fin 4 → EReal)
    (hx : ∀ d, x (ix2 b d) = xr d) (hh : ∀ d, h (ix2 b d) = hr d) (hxr : ∀ d, IsReal (xr d)) (j : Fin 4) :
    stepOf w wi wh bb ta x h (ix2 b j) = p.step xr hr j := by
  unfold stepOf
  generalize hL : Host.dotGeneral (F := Ideal) dot_S16384x4_S4x64_S16384x64_1_0_0_1_n_n none x w = L
  have hLe : ∀ e, L (ix2 b e) = p.logit xr e := fun e => by
    rw [← hL, logits_at]
    exact Finset.sum_congr rfl fun d _ => by rw [hx, hd.wR]
  have hLr : ∀ e, IsReal (p.logit xr e) := fun e => Par.logit_real hp hxr e
  have hbef : ∀ a c, before L b a c = true ↔ p.logit xr c < p.logit xr a := fun a c => by rw [before_iff, hLe, hLe]
  have s0 : sortedFrom (before L b) 0 = top (p.logit xr) := sorted_zero _ _ hbef
  have s1 : sortedFrom (before L b) 1 = snd (p.logit xr) := sorted_one _ _ hbef fun e => (hLr e).above
  generalize hT : Host.topK S16384x2 1 (FloatOps.cmpfTotal (F := Ideal) .gt) L sliceFits_S16384x64_S16384x2 = T
  have i0 : T.2 (ix2 b (0 : Fin 2)) = BitVec.ofNat 32 (top (p.logit xr)).val := by
    rw [← hT, index_at, ← s0]
    rfl
  have i1 : T.2 (ix2 b (1 : Fin 2)) = BitVec.ofNat 32 (snd (p.logit xr)).val := by
    rw [← hT, index_at, ← s1]
    rfl
  have v0 : T.1 (ix2 b (0 : Fin 2)) = p.logit xr (top (p.logit xr)) := by
    rw [← hT, value_at, hLe, ← s0]
    rfl
  have v1 : T.1 (ix2 b (1 : Fin 2)) = p.logit xr (snd (p.logit xr)) := by
    rw [← hT, value_at, hLe, ← s1]
    rfl
  have hmax : max (p.logit xr (top (p.logit xr))) (p.logit xr (snd (p.logit xr))) = p.logit xr (top (p.logit xr)) :=
    max_eq_left (top_first _ _).1
  have n0 : numer T.1 (ix2 b (0 : Fin 2)) = 1 := by
    rw [numer_at, v0, v1, hmax]
    obtain ⟨r, hr⟩ := hLr (top (p.logit xr))
    rw [hr, ← EReal.coe_sub, sub_self]
    show ((Real.exp 0 : ℝ) : EReal) = 1
    rw [Real.exp_zero]
    rfl
  have n1 : numer T.1 (ix2 b (1 : Fin 2)) = p.ratio xr := by
    rw [numer_at, v0, v1, hmax]
    rfl
  have hE : ∀ (k : Fin 2) (e : Fin 64), T.2 (ix2 b k) = BitVec.ofNat 32 e.val →
      h (ix2 b j) + Ideal.div (dt * (Ideal.tanh (proj x (Host.gather g3 wi (wrap T.2)) (ix3 b k j) + proj h (Host.gather g3 wh (wrap T.2)) (ix3 b k j)
        + Host.gather g2 bb (wrap T.2) (ix3 b k j)) - h (ix2 b j))) (Host.gather g2 ta (wrap T.2) (ix3 b k j)) = p.euler xr hr e j := by
    intro k e he
    have hw := wrap_at T.2 b k e he
    rw [proj_at, proj_at, gather2_at _ _ _ _ _ _ hw, gather2_at _ _ _ _ _ _ hw, hh, hd.bE, hd.ta]
    have a1 : ∑ d : Fin 4, x (ix2 b d) * Host.gather g3 wi (wrap T.2) (ix4 b k d j) = ∑ d, xr d * p.wI e d j :=
      Finset.sum_congr rfl fun d _ => by rw [gather3_at _ _ _ _ _ _ _ hw, hx, hd.wI]
    have a2 : ∑ d : Fin 4, h (ix2 b d) * Host.gather g3 wh (wrap T.2) (ix4 b k d j) = ∑ d, hr d * p.wH e d j :=
      Finset.sum_congr rfl fun d _ => by rw [gather3_at _ _ _ _ _ _ _ hw, hh, hd.wH]
    rw [a1, a2]
    rfl
  rw [mix_at, Fin.sum_univ_two, hE 0 _ i0, hE 1 _ i1, gates_at, gates_at, n0, n1]
  rfl

end Cert.ReferenceIdeal.Trip
-- ==== Proof.RefLoop.lean ====
module

public import proofs.«01_k».proof.Proof.RefStep

/-! The reference's 200 time steps and its head, read at one batch row. -/

@[expose] public section

set_option maxRecDepth 16384

noncomputable section

open Idealize.ShloMosaic Idealize.ShloMosaic.TcCoe Idealize.ShloMosaic.StableHlo Idealize.SL.Sem
namespace Cert.ReferenceIdeal.Loop
open Cert.ReferenceIdeal Cert.ReferenceIdeal.Gen Cert.ReferenceIdeal.Value Cert.ReferenceIdeal.Trip Cert.Cell

/-! ## The input of a time step -/

/-- The slice of the time-major input that a counter names. -/
def slice (X : FVec Ideal S200x16384x4 .f32) (n : IVec S_ 32) : FVec Ideal S16384x4 .f32 :=
  shapeCast S16384x4 (Host.dynamicSlice S1x16384x4 X
    (fun k => (((![n, constantI S_ 32 0#32, constantI S_ 32 0#32] : Fin 3 → (⟨S_, .i32⟩ : BufTy).Contents (Elt Ideal))) k (Shape.Idx.first h_S_)).toInt)
    sliceFits_S200x16384x4_S1x16384x4) shapeCasts_S1x16384x4_S16384x4

/-- Indices of equal coordinates are equal. -/
theorem ext3 {n0 n1 n2 : ℕ} (a a' : Fin n0) (b b' : Fin n1) (d d' : Fin n2) (ha : a = a') (hb : b = b') (hd : d = d') :
    ix3 a b d = ix3 a' b' d' := by rw [ha, hb, hd]

/-- The slice at counter `k` is time step `k`. -/
theorem slice_at (X : FVec Ideal S200x16384x4 .f32) (n : IVec S_ 32) (k : Fin 200) (hn : n = fun _ => BitVec.ofNat 32 k.val)
    (b : Fin 16384) (d : Fin 4) : slice X n (ix2 b d) = X (ix3 k b d) := by
  subst hn
  have hk : (BitVec.ofNat 32 k.val).toInt = k.val := StableHlo.Predicate.toInt_ofNat_small _ (by omega)
  have h0 : ∀ h z, Host.clampedStart S200x16384x4 S1x16384x4 h (fun k_1 => ((![fun _ => BitVec.ofNat 32 k.val, constantI S_ 32 0#32,
      constantI S_ 32 0#32] : Fin 3 → IVec S_ 32) k_1 z).toInt) 0 = k.val := fun h z => by
    show (min (max (BitVec.ofNat 32 k.val).toInt 0) ((199 : ℕ) : ℤ)).toNat = k.val
    rw [hk]
    omega
  have h1 : ∀ h z, Host.clampedStart S200x16384x4 S1x16384x4 h (fun k_1 => ((![fun _ => BitVec.ofNat 32 k.val, constantI S_ 32 0#32,
      constantI S_ 32 0#32] : Fin 3 → IVec S_ 32) k_1 z).toInt) 1 = 0 := fun h z => rfl
  have h2 : ∀ h z, Host.clampedStart S200x16384x4 S1x16384x4 h (fun k_1 => ((![fun _ => BitVec.ofNat 32 k.val, constantI S_ 32 0#32,
      constantI S_ 32 0#32] : Fin 3 → IVec S_ 32) k_1 z).toInt) 2 = 0 := fun h z => rfl
  pointwise [slice]
  refine congrArg X (ext3 _ _ _ _ _ _ ?_ ?_ ?_)
  · exact Fin.ext (h0 rfl (Shape.Idx.first h_S_))
  · exact Fin.ext (by dsimp only; rw [h1, Nat.zero_add])
  · exact Fin.ext (by dsimp only; rw [h2, Nat.zero_add])

/-- The input of the trip that the counter numbers. -/
theorem input_eq (V : Valuation τ sig (Elt Ideal)) :
    res_main_while0b_v32 V = slice (V (Proc.devRef .tc main_v3_0)) (V (Proc.devRef .tc main_v3_6)) := rfl

/-! ## The head -/

/-- The hidden layer before its activation. -/
def hidden (H : FVec Ideal S16384x4 .f32) (w1 : FVec Ideal S4x32 .f32) (b1 : FVec Ideal S32 .f32) : FVec Ideal S16384x32 .f32 :=
  addf (Host.dotGeneral (F := Ideal) dot_S16384x4_S4x32_S16384x32_1_0_0_1_n_n none H w1)
    (broadcastInDim S16384x32 ![0, 1] bcast_S1x32_S16384x32_0_1 (broadcastInDim S1x32 ![1] bcast_S32_S1x32_1 b1))

/-- The activation. -/
def active (v : FVec Ideal S16384x32 .f32) : FVec Ideal S16384x32 .f32 :=
  mulf v (mulf (broadcastInDim S16384x32 ![] bcast_S_S16384x32 (constant S_ .f32 0x3F000000#32))
    (addf (broadcastInDim S16384x32 ![] bcast_S_S16384x32 (constant S_ .f32 0x3F800000#32))
      (Host.tanh (mulf (broadcastInDim S16384x32 ![] bcast_S_S16384x32 (constant S_ .f32 0x3F4C422A#32))
        (addf v (mulf (broadcastInDim S16384x32 ![] bcast_S_S16384x32 (constant S_ .f32 0x3D372713#32)) (mulf (mulf v v) v)))))))

/-- The results from the activated hidden layer. -/
def outputs (a : FVec Ideal S16384x32 .f32) (w2 : FVec Ideal S32x10 .f32) (b2 : FVec Ideal S10 .f32) : FVec Ideal S16384x5x2 .f32 :=
  Host.divf (broadcastInDim S16384x5x2 ![] bcast_S_S16384x5x2 (constant S_ .f32 0x3F800000#32))
    (addf (broadcastInDim S16384x5x2 ![] bcast_S_S16384x5x2 (constant S_ .f32 0x3F800000#32))
      (Host.exp (Host.negf (shapeCast S16384x5x2 (addf (Host.dotGeneral (F := Ideal) dot_S16384x32_S32x10_S16384x10_1_0_0_1_n_n none a w2)
        (broadcastInDim S16384x10 ![0, 1] bcast_S1x10_S16384x10_0_1 (broadcastInDim S1x10 ![1] bcast_S10_S1x10_1 b2))) shapeCasts_S16384x10_S16384x5x2))))

/-- The hidden layer at a batch row and a unit. -/
theorem hidden_at (H : FVec Ideal S16384x4 .f32) (w1 : FVec Ideal S4x32 .f32) (b1 : FVec Ideal S32 .f32) (b : Fin 16384) (u : Fin 32) :
    hidden H w1 b1 (ix2 b u) = (∑ d : Fin 4, H (ix2 b d) * w1 (ix2 d u)) + b1 (ix1 u) := by
  pointwise [hidden]

/-- Its activation is entrywise. -/
theorem active_at (v : FVec Ideal S16384x32 .f32) (b : Fin 16384) (u : Fin 32) : active v (ix2 b u) = gelu (v (ix2 b u)) := by
  pointwise [active, gelu]
  rw [mul_assoc]

/-- The outputs at a batch row, a future step and a coordinate. -/
theorem outputs_at (a : FVec Ideal S16384x32 .f32) (w2 : FVec Ideal S32x10 .f32) (b2 : FVec Ideal S10 .f32) (b : Fin 16384) (i : Fin 5) (k : Fin 2) :
    outputs a w2 b2 (ix3 b i k) = Ideal.div 1 (1 + Ideal.exp (-((∑ u : Fin 32, a (ix2 b u) * w2 (ix2 u (⟨i.val * 2 + k.val, by omega⟩ : Fin 10)))
      + b2 (ix1 (⟨i.val * 2 + k.val, by omega⟩ : Fin 10))))) := by
  pointwise [outputs]

/-- The result is the head of the last state. -/
theorem out_eq (V : Valuation τ sig (Elt Ideal)) :
    out_main_v31 V = outputs (active (hidden (V (Proc.devRef .tc main_v3_7)) (V (Proc.devRef .tc main_arg6)) (V (Proc.devRef .tc main_arg7))))
      (V (Proc.devRef .tc main_arg8)) (V (Proc.devRef .tc main_arg9)) := by
  unfold out_main_v31 outputs active hidden
  rfl

/-! ## The loop's entry -/

variable (m : (ℓ : Loc nD τ sig) → Buf (Elt Ideal) ℓ) (c : Dev nD)

/-- A buffer's contents in a memory. -/
abbrev at_ (b : Ref sig .tc) : (Proc.devRef .tc b : DevRef τ sig).ty.Contents (Elt Ideal) := m (c, Proc.devRef .tc b)

/-- The buffers at the loop's entry. -/
abbrev V0 : Valuation τ sig (Elt Ideal) := entryContents preI m c

/-- What a valuation holds at the loop's entry: the input with the time first, the parameters as they are given but for
the time constants, which are the exponentials of their logarithms, a counter at zero and a state of zeros. -/
structure Entry (V : Valuation τ sig (Elt Ideal)) : Prop where
  input : V (Proc.devRef .tc main_v3_0) = transpose S200x16384x4 [1, 0, 2] (at_ m c main_arg0) transposes_S16384x200x4_S200x16384x4_1_0_2
  wR : V (Proc.devRef .tc main_v3_1) = at_ m c main_arg1
  wI : V (Proc.devRef .tc main_v3_2) = at_ m c main_arg2
  wH : V (Proc.devRef .tc main_v3_3) = at_ m c main_arg3
  bE : V (Proc.devRef .tc main_v3_4) = at_ m c main_arg4
  ta : V (Proc.devRef .tc main_v3_5) = Host.exp (F := Ideal) (φ := .f32) (s := S64x4) (at_ m c main_arg5)
  counter : V (Proc.devRef .tc main_v3_6) = constantI S_ 32 0#32
  state : V (Proc.devRef .tc main_v3_7) = broadcastInDim S16384x4 ![] bcast_S_S16384x4 (constant (F := Ideal) S_ .f32 0x00000000#32)

/-- The operations before the loop leave that. -/
theorem entry : Entry m c (V0 m c) := by
  constructor <;>
  · simp only [V0, entryContents, preI, afterL_cons, afterL_nil, hostOps0]
    after_results_simp
    rfl

/-! ## The trips -/

/-- The buffers before trip `k`. -/
abbrev Vk (k : ℕ) : Valuation τ sig (Elt Ideal) := STEP^[k] (V0 m c)

/-- One more trip. -/
theorem Vk_succ (k : ℕ) : Vk m c (k + 1) = STEP (Vk m c k) := Function.iterate_succ_apply' STEP k _

/-- A buffer that no trip changes holds what it held at the entry. -/
theorem kept {b : DevRef τ sig} (h : ∀ V : Valuation τ sig (Elt Ideal), STEP V b = V b) (k : ℕ) : Vk m c k b = V0 m c b := by
  induction k with
  | zero => rfl
  | succ k ih => rw [Vk_succ, h, ih]

/-- The counter counts. -/
theorem counter (k : ℕ) : Vk m c k (Proc.devRef .tc main_v3_6) = (fun _ => BitVec.ofNat 32 k : IVec S_ 32) := by
  induction k with
  | zero => exact (entry m c).counter
  | succ k ih =>
    rw [Vk_succ, STEP_main_v3_6]
    unfold step_main_v3_6
    rw [ih]
    funext i
    show BitVec.ofNat 32 k + 1#32 = BitVec.ofNat 32 (k + 1)
    apply BitVec.eq_of_toNat_eq
    simp [BitVec.toNat_add, BitVec.toNat_ofNat]

/-- The memory's arguments hold the input, the cell's parameters and the head's weights and biases. -/
structure Args (p : Par) (X : Fin 16384 → Fin 200 → Fin 4 → EReal) (w1 : Fin 4 → Fin 32 → EReal) (b1 : Fin 32 → EReal)
    (w2 : Fin 32 → Fin 10 → EReal) (b2 : Fin 10 → EReal) : Prop where
  x : ∀ b k d, (at_ m c main_arg0 : FVec Ideal S16384x200x4 .f32) (ix3 b k d) = X b k d
  wR : ∀ d e, (at_ m c main_arg1 : FVec Ideal S4x64 .f32) (ix2 d e) = p.wR d e
  wI : ∀ e d j, (at_ m c main_arg2 : FVec Ideal S64x4x4 .f32) (ix3 e d j) = p.wI e d j
  wH : ∀ e d j, (at_ m c main_arg3 : FVec Ideal S64x4x4 .f32) (ix3 e d j) = p.wH e d j
  bE : ∀ e j, (at_ m c main_arg4 : FVec Ideal S64x4 .f32) (ix2 e j) = p.bE e j
  lt : ∀ e j, (at_ m c main_arg5 : FVec Ideal S64x4 .f32) (ix2 e j) = p.lt e j
  w1 : ∀ d u, (at_ m c main_arg6 : FVec Ideal S4x32 .f32) (ix2 d u) = w1 d u
  b1 : ∀ u, (at_ m c main_arg7 : FVec Ideal S32 .f32) (ix1 u) = b1 u
  w2 : ∀ u o, (at_ m c main_arg8 : FVec Ideal S32x10 .f32) (ix2 u o) = w2 u o
  b2 : ∀ o, (at_ m c main_arg9 : FVec Ideal S10 .f32) (ix1 o) = b2 o

/-- A batch row's input at each time step, zero after the last. -/
abbrev rowOf (X : Fin 16384 → Fin 200 → Fin 4 → EReal) (b : Fin 16384) (k : ℕ) (d : Fin 4) : EReal :=
  if h : k < 200 then X b ⟨k, h⟩ d else 0

/-- The exponential of the time constants' logarithms, by entry. -/
theorem exp_at (v : FVec Ideal S64x4 .f32) (e : Fin 64) (j : Fin 4) : Host.exp v (ix2 e j) = Ideal.exp (v (ix2 e j)) := by
  pointwise

/-- The time-major input, by entry. -/
theorem major_at (v : FVec Ideal S16384x200x4 .f32) (k : Fin 200) (b : Fin 16384) (d : Fin 4) :
    transpose S200x16384x4 [1, 0, 2] v transposes_S16384x200x4_S200x16384x4_1_0_2 (ix3 k b d) = v (ix3 b k d) := by
  pointwise

/-- The state before the first time step. -/
theorem zero_at (b : Fin 16384) (j : Fin 4) :
    broadcastInDim S16384x4 ![] bcast_S_S16384x4 (constant (F := Ideal) S_ .f32 0x00000000#32) (ix2 b j) = 0 := by
  pointwise

variable {m c} {p : Par} {X : Fin 16384 → Fin 200 → Fin 4 → EReal} {w1 : Fin 4 → Fin 32 → EReal} {b1 : Fin 32 → EReal}
  {w2 : Fin 32 → Fin 10 → EReal} {b2 : Fin 10 → EReal}

/-- The carried parameters, at every trip. -/
theorem holds (ha : Args m c p X w1 b1 w2 b2) (k : ℕ) : Holds p (Vk m c k (Proc.devRef .tc main_v3_1)) (Vk m c k (Proc.devRef .tc main_v3_2))
    (Vk m c k (Proc.devRef .tc main_v3_3)) (Vk m c k (Proc.devRef .tc main_v3_4)) (Vk m c k (Proc.devRef .tc main_v3_5)) where
  wR d e := by rw [kept m c STEP_main_v3_1, (entry m c).wR]; exact ha.wR d e
  wI e d j := by rw [kept m c STEP_main_v3_2, (entry m c).wI]; exact ha.wI e d j
  wH e d j := by rw [kept m c STEP_main_v3_3, (entry m c).wH]; exact ha.wH e d j
  bE e j := by rw [kept m c STEP_main_v3_4, (entry m c).bE]; exact ha.bE e j
  ta e j := by rw [kept m c STEP_main_v3_5, (entry m c).ta, exp_at]; exact congrArg Ideal.exp (ha.lt e j)

/-- Before trip `k` the carried state's row is the cell's state after `k` time steps. -/
theorem state_at (ha : Args m c p X w1 b1 w2 b2) (hp : p.Fine) (hX : ∀ b k d, IsReal (X b k d)) (b : Fin 16384) (k : ℕ) (hk : k ≤ 200) :
    ∀ j : Fin 4, (Vk m c k (Proc.devRef .tc main_v3_7) : FVec Ideal S16384x4 .f32) (ix2 b j) = p.state (rowOf X b) k j := by
  induction k with
  | zero =>
    intro j
    exact (congrFun ((entry m c).state) (ix2 b j)).trans (zero_at b j)
  | succ k ih =>
    intro j
    have hk' : k < 200 := hk
    rw [Vk_succ, STEP_main_v3_7, step_eq, input_eq]
    refine step_at (holds ha k) hp _ _ b (rowOf X b k) (p.state (rowOf X b) k) (fun d => ?_) (ih (by omega)) (fun d => ?_) j
    · rw [slice_at _ _ ⟨k, hk'⟩ (counter m c k), kept m c STEP_main_v3_0, (entry m c).input, major_at]
      refine (ha.x b ⟨k, hk'⟩ d).trans ?_
      rw [rowOf, dif_pos hk']
    · rw [rowOf, dif_pos hk']
      exact hX _ _ _

/-- The reference's results are the network's. -/
theorem result_at (ha : Args m c p X w1 b1 w2 b2) (hp : p.Fine) (hX : ∀ b k d, IsReal (X b k d)) (b : Fin 16384) (i : Fin 5) (k : Fin 2) :
    (out_main_v31 (Vk m c 200) : FVec Ideal S16384x5x2 .f32) (ix3 b i k)
      = head w1 b1 w2 b2 (p.state (rowOf X b) 200) ⟨i.val * 2 + k.val, by omega⟩ := by
  have e6 : Vk m c 200 (Proc.devRef .tc main_arg6) = at_ m c main_arg6 := iter_main_arg6 m c 200
  have e7 : Vk m c 200 (Proc.devRef .tc main_arg7) = at_ m c main_arg7 := iter_main_arg7 m c 200
  have e8 : Vk m c 200 (Proc.devRef .tc main_arg8) = at_ m c main_arg8 := iter_main_arg8 m c 200
  have e9 : Vk m c 200 (Proc.devRef .tc main_arg9) = at_ m c main_arg9 := iter_main_arg9 m c 200
  rw [out_eq, e6, e7, e8, e9, outputs_at]
  unfold head
  have hs := state_at ha hp hX b 200 le_rfl
  have hu : ∀ u : Fin 32, active (hidden (Vk m c 200 (Proc.devRef .tc main_v3_7)) (at_ m c main_arg6) (at_ m c main_arg7)) (ix2 b u)
      = gelu ((∑ d, p.state (rowOf X b) 200 d * w1 d u) + b1 u) := fun u => by
    rw [active_at, hidden_at]
    refine congrArg gelu (congrArg₂ (· + ·) (Finset.sum_congr rfl fun d _ => ?_) (ha.b1 u))
    exact congrArg₂ (· * ·) (hs d) (ha.w1 d u)
  refine congrArg (fun q => Ideal.div 1 (1 + Ideal.exp (-q))) (congrArg₂ (· + ·) (Finset.sum_congr rfl fun u _ => ?_) (ha.b2 _))
  exact congrArg₂ (· * ·) (hu u) (ha.w2 u _)

end Cert.ReferenceIdeal.Loop
-- ==== Proof.Finite.lean ====
module

public import proofs.«01_k».proof.Proof.Cell
public import proofs.«01_k».proof.Proof.Gen.Pre_finite
public import Idealize.ShloMosaic.Lib.ReduceAll
public import Idealize.ShloMosaic.Lib.Affine

/-! The precondition says that the input, the router and the time constants' logarithms are real. -/

@[expose] public section

set_option maxRecDepth 16384

noncomputable section

open Idealize.ShloMosaic
namespace Cert.Pre_finite
open Cert.Pre_finite.Gen Cert.Cell

/-- The word compared against is infinity. -/
theorem infinity : Ideal.ofBits .f32 0x7F800000#32 = ⊤ := by
  simp [Ideal.ofBits, Ideal.ieee]

/-- An extended real whose absolute value is below infinity is real. -/
theorem real_of_abs {x : EReal}
    (h : FloatOps.cmpf (F := Ideal) (φ := .f32) .olt (max x (-x)) (Ideal.ofBits .f32 0x7F800000#32) = 1#1) : IsReal x := by
  rw [infinity] at h
  have hlt : max x (-x) < ⊤ := by
    by_contra hn
    simp [FloatOps.cmpf, Ideal.cmp, hn] at h
  induction x using EReal.rec with
  | bot => simp at hlt
  | top => simp at hlt
  | coe r => exact ⟨r, rfl⟩

/-- A conjunction of two one-bit arrays of one entry that is one has both of them one. -/
theorem both (x y : IVec S_ 1) (h : andi x y = fun _ => 1#1) : (x = fun _ => 1#1) ∧ (y = fun _ => 1#1) :=
  ⟨funext fun i => (IntOp.andi_eq_one.1 (congrFun h i)).1, funext fun i => (IntOp.andi_eq_one.1 (congrFun h i)).2⟩

instance : Subsingleton S_.Idx := ⟨fun a b => funext fun i => i.elim0⟩

/-- What the precondition says: the input, the router and the logarithms of the time constants are real. -/
theorem reals (a0 : FVec Ideal S16384x200x4 .f32) (a1 : FVec Ideal S4x64 .f32) (a2 a3 : FVec Ideal S64x4x4 .f32) (a4 a5 : FVec Ideal S64x4 .f32)
    (a6 : FVec Ideal S4x32 .f32) (a7 : FVec Ideal S32 .f32) (a8 : FVec Ideal S32x10 .f32) (a9 : FVec Ideal S10 .f32)
    (h : fn a0 a1 a2 a3 a4 a5 a6 a7 a8 a9 = fun _ => 1#1) : (∀ i, IsReal (a0 i)) ∧ (∀ i, IsReal (a1 i)) ∧ (∀ i, IsReal (a5 i)) := by
  obtain ⟨h01, h5⟩ := both _ _ h
  obtain ⟨h0, h1⟩ := both _ _ h01
  exact ⟨fun i => real_of_abs (Host.reduce_andi_all _ _ _ _ ix0 (congrFun h0 ix0) i),
    fun i => real_of_abs (Host.reduce_andi_all _ _ _ _ ix0 (congrFun h1 ix0) i),
    fun i => real_of_abs (Host.reduce_andi_all _ _ _ _ ix0 (congrFun h5 ix0) i)⟩

end Cert.Pre_finite
-- ==== Proof.lean ====
module

public import proofs.«01_k».proof.Defs
public import proofs.«01_k».proof.Proof.Gen.Kernel.Frame
public import proofs.«01_k».proof.Proof.Gen.KernelIdeal.Frame
public import proofs.«01_k».proof.Proof.KerRun
public import proofs.«01_k».proof.Proof.RefLoop
public import proofs.«01_k».proof.Proof.Finite
public import Idealize.ShloMosaic.Lib.Quiescent
public import Idealize.ShloMosaic.Lib.Claim

/-! The proof of the certificate's claims. The kernel's frames are the generated ones; the reference has no semaphores, so
its run leaves every counter at zero. The value claim: both programs leave in their result, at every entry, the network's
result of that entry's batch row. -/

@[expose] public section

noncomputable section

namespace Cert.Proof

open Idealize.ShloMosaic Idealize.SL.Sem Cert.Cell

attribute [local instance] Cert.Kernel.Gen.facts Cert.KernelIdeal.Gen.facts Cert.ReferenceIdeal.Gen.facts Cert.Pre_finite.Gen.facts

/-- The reference runs, leaves its arguments as they were and leaves every semaphore at zero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- Where the input, the router and the logarithms of the time constants are real, the kernel and the reference leave the
same result and their arguments as they were. -/
theorem values : Cert.algebraic_KernelIdeal_ReferenceIdeal_pre_finite := by
  intro m g m' g' hpre hagree
  have hreal := fun c => Cert.Pre_finite.reals _ _ _ _ _ _ _ _ _ _ (hpre c)
  have hp : ∀ c, (Cert.KernelIdeal.Blocks.parOf m c).Fine := fun c => ⟨fun d e => (hreal c).2.1 _, fun e j => (hreal c).2.2 _⟩
  refine ⟨fun c => Cert.KernelIdeal.KerRun.G m c, Cert.KernelIdeal.KerRun.run m g hp fun c => (hreal c).1, ?_⟩
  refine (θ_run Cert.ReferenceIdeal.defs _ _).mono (fun r h c => ⟨(h c).1.trans ?_, (h c).2⟩) (Cert.ReferenceIdeal.Value.run m' g')
  obtain ⟨a0, a1, a2, a3, a4, a5, a6, a7, a8, a9⟩ := hagree c
  have ha : Cert.ReferenceIdeal.Loop.Args m' c (Cert.KernelIdeal.Blocks.parOf m c)
      (fun b k d => Cert.KernelIdeal.Operands.at_ m c Cert.KernelIdeal.main_arg0 (ix3 b k d))
      (Cert.KernelIdeal.Blocks.w1Of m c) (Cert.KernelIdeal.Blocks.b1Of m c)
      (Cert.KernelIdeal.Blocks.w2Of m c) (Cert.KernelIdeal.Blocks.b2Of m c) :=
    { x := fun _ _ _ => congrFun a0 _, wR := fun _ _ => congrFun a1 _, wI := fun _ _ _ => congrFun a2 _,
      wH := fun _ _ _ => congrFun a3 _, bE := fun _ _ => congrFun a4 _, lt := fun _ _ => congrFun a5 _,
      w1 := fun _ _ => congrFun a6 _, b1 := fun _ => congrFun a7 _, w2 := fun _ _ => congrFun a8 _, b2 := fun _ => congrFun a9 _ }
  funext i
  idx_vars i
  exact Cert.ReferenceIdeal.Loop.result_at ha (hp c) (fun _ _ _ => (hreal c).1 _) _ _ _

/-- Every claim of the certificate. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g, fun m g _ => Cert.KernelIdeal.Gen.frame m g,
    reference_frame, fun m g _ => reference_frame m g trivial, trivial, values⟩

end Cert.Proof

end
